-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v52) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x1024 : Shape := ⟨2, ![2048, 1024]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2048x1024 .bf16) (main_arg1 : FVec F S1024x1024 .bf16) (main_arg2 : FVec F S2048x1024 .bf16) (main_arg3 : FVec F S2048x1024 .bf16) (main_arg4 : FVec F S1024x1024 .bf16) : IVec S_ 1 :=
  let main_v0 : FVec F S2048x1024 .bf16 := Host.absf main_arg0
  let main_cst : FVec F S_ .bf16 := constant S_ .bf16 0x7F80#16
  let main_v1 : FVec F S2048x1024 .bf16 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S2048x1024 .bf16 := Host.absf main_arg2
  let main_cst_2 : FVec F S_ .bf16 := constant S_ .bf16 0x7F80#16
  let main_v10 : FVec F S2048x1024 .bf16 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  main_v13
-- ==== Pre_finite_ReferenceIdeal.lean ====
abbrev S2048x1024 : Shape := ⟨2, ![2048, 1024]⟩
abbrev S1024x8192 : Shape := ⟨2, ![1024, 8192]⟩
abbrev S2048x8192 : Shape := ⟨2, ![2048, 8192]⟩
abbrev S8192x1024 : Shape := ⟨2, ![8192, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn {F : FTy → Type} [FloatOps F] (main_arg0 : FVec F S2048x1024 .bf16) (main_arg1 : FVec F S1024x8192 .bf16) (main_arg2 : FVec F S2048x8192 .bf16) (main_arg3 : FVec F S2048x8192 .bf16) (main_arg4 : FVec F S8192x1024 .bf16) : IVec S_ 1 :=
  let main_v0 : FVec F S2048x1024 .bf16 := Host.absf main_arg0
  let main_cst : FVec F S_ .bf16 := constant S_ .bf16 0x7F80#16
  let main_v1 : FVec F S2048x1024 .bf16 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x8192 .bf16 := Host.absf main_arg1
  let main_cst_0 : FVec F S_ .bf16 := constant S_ .bf16 0x7F80#16
  let main_v5 : FVec F S1024x8192 .bf16 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S2048x8192 .bf16 := Host.absf main_arg2
  let main_cst_2 : FVec F S_ .bf16 := constant S_ .bf16 0x7F80#16
  let main_v10 : FVec F S2048x8192 .bf16 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  main_v13
-- ==== Kernel.lean ====
abbrev S2048x1024 : Shape := ⟨2, ![2048, 1024]⟩
abbrev S1024x1024 : Shape := ⟨2, ![1024, 1024]⟩
abbrev S7x256x1024 : Shape := ⟨3, ![7, 256, 1024]⟩
abbrev S7 : Shape := ⟨1, ![7]⟩
abbrev S4 : Shape := ⟨1, ![4]⟩
abbrev S_ : Shape := ⟨0, ![]⟩
abbrev S256x1024 : Shape := ⟨2, ![256, 1024]⟩
abbrev S4x2048 : Shape := ⟨2, ![4, 2048]⟩
abbrev S4x1x2048 : Shape := ⟨3, ![4, 1, 2048]⟩
abbrev S4x64x2048 : Shape := ⟨3, ![4, 64, 2048]⟩
abbrev S256x2048 : Shape := ⟨2, ![256, 2048]⟩
abbrev S256x128 : Shape := ⟨2, ![256, 128]⟩
abbrev S2048x128 : Shape := ⟨2, ![2048, 128]⟩
abbrev S256 : Shape := ⟨1, ![256]⟩
abbrev S256x1 : Shape := ⟨2, ![256, 1]⟩
abbrev S1 : Shape := ⟨1, ![1]⟩
abbrev S1x256x1024 : Shape := ⟨3, ![1, 256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S2048x1024, .bf16⟩
  | .hbm, ⟨4, _⟩ => ⟨S1024x1024, .bf16⟩
  | .hbm, ⟨5, _⟩ => ⟨S2048x1024, .bf16⟩
  | .local _ .vmem, ⟨0, _⟩ => ⟨S2048x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S7x256x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_6 : BitVec 32 := 1#32
  let v9 : BitVec 32 := Scalar.muli v7 c1_i32_6
  let v10 : BitVec 32 := Scalar.addi c0_i32 v9
  v10.toNat
@[reducible] def k0_t1_loop : Scf.Loop 32 :=
  let c0_i32_8 : BitVec 32 := 0#32
  let c8_i32_9 : BitVec 32 := 8#32
  let v11 : BitVec 32 := Scalar.addi c0_i32_8 c8_i32_9
  let c1_i32_10 : BitVec 32 := 1#32
  ⟨c0_i32_8, v11, c1_i32_10⟩
def k0_off1 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_159 : BitVec 32 := 8#32
  let v170 : BitVec 32 := Scalar.addi v2 c8_i32_159
  let c0_i32_8 : BitVec 32 := 0#32
  let c1_i32_10 : BitVec 32 := 1#32
  let arg15 : BitVec 32 := Scf.iv c0_i32_8 c1_i32_10 k0_t1
  let v171 : BitVec 32 := Scalar.subi v170 arg15
  let c8_i32_160 : BitVec 32 := 8#32
  let v172 : BitVec 32 := Scalar.remsi v171 c8_i32_160
  let c256_i32_161 : BitVec 32 := 256#32
  let v173 : BitVec 32 := Scalar.muli v172 c256_i32_161
  let v174 : Index := Scalar.indexCast v173
  let c0 : Index := 0#32
  ![v174.toNat, 0]
def k0_off2 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_159 : BitVec 32 := 8#32
  let v170 : BitVec 32 := Scalar.addi v2 c8_i32_159
  let c0_i32_8 : BitVec 32 := 0#32
  let c1_i32_10 : BitVec 32 := 1#32
  let arg15 : BitVec 32 := Scf.iv c0_i32_8 c1_i32_10 k0_t1
  let v171 : BitVec 32 := Scalar.subi v170 arg15
  let c8_i32_160 : BitVec 32 := 8#32
  let v172 : BitVec 32 := Scalar.remsi v171 c8_i32_160
  let c256_i32_161 : BitVec 32 := 256#32
  let v173 : BitVec 32 := Scalar.muli v172 c256_i32_161
  let v233 : Index := Scalar.indexCast v173
  let c0_178 : Index := 0#32
  ![v233.toNat, 0]
def k0_off3 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_159 : BitVec 32 := 8#32
  let v170 : BitVec 32 := Scalar.addi v2 c8_i32_159
  let c0_i32_8 : BitVec 32 := 0#32
  let c1_i32_10 : BitVec 32 := 1#32
  let arg15 : BitVec 32 := Scf.iv c0_i32_8 c1_i32_10 k0_t1
  let v171 : BitVec 32 := Scalar.subi v170 arg15
  let c8_i32_160 : BitVec 32 := 8#32
  let v172 : BitVec 32 := Scalar.remsi v171 c8_i32_160
  let c256_i32_161 : BitVec 32 := 256#32
  let v173 : BitVec 32 := Scalar.muli v172 c256_i32_161
  let v253 : Index := Scalar.indexCast v173
  let c128 : Index := 128#32
  ![v253.toNat, 128]
def k0_off4 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_159 : BitVec 32 := 8#32
  let v170 : BitVec 32 := Scalar.addi v2 c8_i32_159
  let c0_i32_8 : BitVec 32 := 0#32
  let c1_i32_10 : BitVec 32 := 1#32
  let arg15 : BitVec 32 := Scf.iv c0_i32_8 c1_i32_10 k0_t1
  let v171 : BitVec 32 := Scalar.subi v170 arg15
  let c8_i32_160 : BitVec 32 := 8#32
  let v172 : BitVec 32 := Scalar.remsi v171 c8_i32_160
  let c256_i32_161 : BitVec 32 := 256#32
  let v173 : BitVec 32 := Scalar.muli v172 c256_i32_161
  let v273 : Index := Scalar.indexCast v173
  let c256 : Index := 256#32
  ![v273.toNat, 256]
def k0_off5 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_159 : BitVec 32 := 8#32
  let v170 : BitVec 32 := Scalar.addi v2 c8_i32_159
  let c0_i32_8 : BitVec 32 := 0#32
  let c1_i32_10 : BitVec 32 := 1#32
  let arg15 : BitVec 32 := Scf.iv c0_i32_8 c1_i32_10 k0_t1
  let v171 : BitVec 32 := Scalar.subi v170 arg15
  let c8_i32_160 : BitVec 32 := 8#32
  let v172 : BitVec 32 := Scalar.remsi v171 c8_i32_160
  let c256_i32_161 : BitVec 32 := 256#32
  let v173 : BitVec 32 := Scalar.muli v172 c256_i32_161
  let v293 : Index := Scalar.indexCast v173
  let c384 : Index := 384#32
  ![v293.toNat, 384]
def k0_off6 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_159 : BitVec 32 := 8#32
  let v170 : BitVec 32 := Scalar.addi v2 c8_i32_159
  let c0_i32_8 : BitVec 32 := 0#32
  let c1_i32_10 : BitVec 32 := 1#32
  let arg15 : BitVec 32 := Scf.iv c0_i32_8 c1_i32_10 k0_t1
  let v171 : BitVec 32 := Scalar.subi v170 arg15
  let c8_i32_160 : BitVec 32 := 8#32
  let v172 : BitVec 32 := Scalar.remsi v171 c8_i32_160
  let c256_i32_161 : BitVec 32 := 256#32
  let v173 : BitVec 32 := Scalar.muli v172 c256_i32_161
  let v313 : Index := Scalar.indexCast v173
  let c512 : Index := 512#32
  ![v313.toNat, 512]
def k0_off7 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_159 : BitVec 32 := 8#32
  let v170 : BitVec 32 := Scalar.addi v2 c8_i32_159
  let c0_i32_8 : BitVec 32 := 0#32
  let c1_i32_10 : BitVec 32 := 1#32
  let arg15 : BitVec 32 := Scf.iv c0_i32_8 c1_i32_10 k0_t1
  let v171 : BitVec 32 := Scalar.subi v170 arg15
  let c8_i32_160 : BitVec 32 := 8#32
  let v172 : BitVec 32 := Scalar.remsi v171 c8_i32_160
  let c256_i32_161 : BitVec 32 := 256#32
  let v173 : BitVec 32 := Scalar.muli v172 c256_i32_161
  let v333 : Index := Scalar.indexCast v173
  let c640 : Index := 640#32
  ![v333.toNat, 640]
def k0_off8 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_159 : BitVec 32 := 8#32
  let v170 : BitVec 32 := Scalar.addi v2 c8_i32_159
  let c0_i32_8 : BitVec 32 := 0#32
  let c1_i32_10 : BitVec 32 := 1#32
  let arg15 : BitVec 32 := Scf.iv c0_i32_8 c1_i32_10 k0_t1
  let v171 : BitVec 32 := Scalar.subi v170 arg15
  let c8_i32_160 : BitVec 32 := 8#32
  let v172 : BitVec 32 := Scalar.remsi v171 c8_i32_160
  let c256_i32_161 : BitVec 32 := 256#32
  let v173 : BitVec 32 := Scalar.muli v172 c256_i32_161
  let v353 : Index := Scalar.indexCast v173
  let c768 : Index := 768#32
  ![v353.toNat, 768]
def k0_off9 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_159 : BitVec 32 := 8#32
  let v170 : BitVec 32 := Scalar.addi v2 c8_i32_159
  let c0_i32_8 : BitVec 32 := 0#32
  let c1_i32_10 : BitVec 32 := 1#32
  let arg15 : BitVec 32 := Scf.iv c0_i32_8 c1_i32_10 k0_t1
  let v171 : BitVec 32 := Scalar.subi v170 arg15
  let c8_i32_160 : BitVec 32 := 8#32
  let v172 : BitVec 32 := Scalar.remsi v171 c8_i32_160
  let c256_i32_161 : BitVec 32 := 256#32
  let v173 : BitVec 32 := Scalar.muli v172 c256_i32_161
  let v373 : Index := Scalar.indexCast v173
  let c896 : Index := 896#32
  ![v373.toNat, 896]
def k0_cond1 (k0_t1 : Fin k0_t1_loop.trips) : BitVec 1 :=
  let c0_i32_8 : BitVec 32 := 0#32
  let c1_i32_10 : BitVec 32 := 1#32
  let arg15 : BitVec 32 := Scf.iv c0_i32_8 c1_i32_10 k0_t1
  let c0_i32_252 : BitVec 32 := 0#32
  let v406 : BitVec 1 := Scalar.cmpi .sgt arg15 c0_i32_252
  let v407 : BitVec 32 := Scalar.extui v406
  let c0_i32_253 : BitVec 32 := 0#32
  let v408 : BitVec 1 := Scalar.cmpi .ne v407 c0_i32_253
  v408

def k0_off10 (k0_t1 : Fin k0_t1_loop.trips) : Fin 1 → Nat :=
  let c0_i32_8 : BitVec 32 := 0#32
  let c1_i32_10 : BitVec 32 := 1#32
  let arg15 : BitVec 32 := Scf.iv c0_i32_8 c1_i32_10 k0_t1
  let c1_i32_248 : BitVec 32 := 1#32
  let v401 : BitVec 32 := Scalar.subi arg15 c1_i32_248
  let c0_i32_249 : BitVec 32 := 0#32
  let v402 : BitVec 32 := Scalar.maxsi v401 c0_i32_249
  ![v402.toNat]
def k0_off11 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_250 : BitVec 32 := 8#32
  let v403 : BitVec 32 := Scalar.addi v2 c8_i32_250
  let c0_i32_8 : BitVec 32 := 0#32
  let c1_i32_10 : BitVec 32 := 1#32
  let arg15 : BitVec 32 := Scf.iv c0_i32_8 c1_i32_10 k0_t1
  let c1_i32_248 : BitVec 32 := 1#32
  let v401 : BitVec 32 := Scalar.subi arg15 c1_i32_248
  let c0_i32_249 : BitVec 32 := 0#32
  let v402 : BitVec 32 := Scalar.maxsi v401 c0_i32_249
  let v404 : BitVec 32 := Scalar.subi v403 v402
  let c8_i32_251 : BitVec 32 := 8#32
  let v405 : BitVec 32 := Scalar.remsi v404 c8_i32_251
  let c256_i32_255 : BitVec 32 := 256#32
  let v412 : BitVec 32 := Scalar.muli v405 c256_i32_255
  let c0_i32_257 : BitVec 32 := 0#32
  ![v412.toNat, 0]
def k0_off12 (k0_t1 : Fin k0_t1_loop.trips) : Fin 3 → Nat :=
  let c0_i32_8 : BitVec 32 := 0#32
  let c1_i32_10 : BitVec 32 := 1#32
  let arg15 : BitVec 32 := Scf.iv c0_i32_8 c1_i32_10 k0_t1
  let c1_i32_248 : BitVec 32 := 1#32
  let v401 : BitVec 32 := Scalar.subi arg15 c1_i32_248
  let c0_i32_249 : BitVec 32 := 0#32
  let v402 : BitVec 32 := Scalar.maxsi v401 c0_i32_249
  let c0_i32_258 : BitVec 32 := 0#32
  let c0_i32_259 : BitVec 32 := 0#32
  ![v402.toNat, 0, 0]
def k0_off13 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_159 : BitVec 32 := 8#32
  let v170 : BitVec 32 := Scalar.addi v2 c8_i32_159
  let c0_i32_8 : BitVec 32 := 0#32
  let c1_i32_10 : BitVec 32 := 1#32
  let arg15 : BitVec 32 := Scf.iv c0_i32_8 c1_i32_10 k0_t1
  let v171 : BitVec 32 := Scalar.subi v170 arg15
  let c8_i32_160 : BitVec 32 := 8#32
  let v172 : BitVec 32 := Scalar.remsi v171 c8_i32_160
  let c256_i32_161 : BitVec 32 := 256#32
  let v173 : BitVec 32 := Scalar.muli v172 c256_i32_161
  let v425 : Index := Scalar.indexCast v173
  let c0_265 : Index := 0#32
  ![v425.toNat, 0]
def k0_off14 (k0_t1 : Fin k0_t1_loop.trips) : Fin 3 → Nat :=
  let c0_i32_8 : BitVec 32 := 0#32
  let c1_i32_10 : BitVec 32 := 1#32
  let arg15 : BitVec 32 := Scf.iv c0_i32_8 c1_i32_10 k0_t1
  let c1_i32_248 : BitVec 32 := 1#32
  let v401 : BitVec 32 := Scalar.subi arg15 c1_i32_248
  let c0_i32_249 : BitVec 32 := 0#32
  let v402 : BitVec 32 := Scalar.maxsi v401 c0_i32_249
  let v428 : Index := Scalar.indexCast v402
  let c0_266 : Index := 0#32
  let c0_267 : Index := 0#32
  ![v428.toNat, 0, 0]
def k0_cond2 (k0_t1 : Fin k0_t1_loop.trips) : BitVec 1 :=
  let c0_i32_8 : BitVec 32 := 0#32
  let c1_i32_10 : BitVec 32 := 1#32
  let arg15 : BitVec 32 := Scf.iv c0_i32_8 c1_i32_10 k0_t1
  let c7_i32 : BitVec 32 := 7#32
  let v409 : BitVec 1 := Scalar.cmpi .slt arg15 c7_i32
  let v410 : BitVec 32 := Scalar.extui v409
  let c0_i32_254 : BitVec 32 := 0#32
  let v411 : BitVec 1 := Scalar.cmpi .ne v410 c0_i32_254
  v411

def k0_off15 (k0_t1 : Fin k0_t1_loop.trips) : Fin 1 → Nat :=
  let c0_i32_8 : BitVec 32 := 0#32
  let c1_i32_10 : BitVec 32 := 1#32
  let arg15 : BitVec 32 := Scf.iv c0_i32_8 c1_i32_10 k0_t1
  ![arg15.toNat]
def k0_off16 (k0_t1 : Fin k0_t1_loop.trips) : Fin 3 → Nat :=
  let c0_i32_8 : BitVec 32 := 0#32
  let c1_i32_10 : BitVec 32 := 1#32
  let arg15 : BitVec 32 := Scf.iv c0_i32_8 c1_i32_10 k0_t1
  let c0_i32_257 : BitVec 32 := 0#32
  let c0_i32_258 : BitVec 32 := 0#32
  ![arg15.toNat, 0, 0]
def k0_off17 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_159 : BitVec 32 := 8#32
  let v170 : BitVec 32 := Scalar.addi v2 c8_i32_159
  let c0_i32_8 : BitVec 32 := 0#32
  let c1_i32_10 : BitVec 32 := 1#32
  let arg15 : BitVec 32 := Scf.iv c0_i32_8 c1_i32_10 k0_t1
  let v171 : BitVec 32 := Scalar.subi v170 arg15
  let c8_i32_160 : BitVec 32 := 8#32
  let v172 : BitVec 32 := Scalar.remsi v171 c8_i32_160
  let c256_i32_161 : BitVec 32 := 256#32
  let v173 : BitVec 32 := Scalar.muli v172 c256_i32_161
  let c0_i32_259 : BitVec 32 := 0#32
  ![v173.toNat, 0]
def k0_dev2 (d0 : Dev nD) : Nat :=
  let c0_i32_256 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_255 : BitVec 32 := 1#32
  let v412 : BitVec 32 := Scalar.muli v4 c1_i32_255
  let v413 : BitVec 32 := Scalar.addi c0_i32_256 v412
  v413.toNat
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v14 : BitVec 32 := Scalar.addi v2 c1_i32_13
  let c8_i32_14 : BitVec 32 := 8#32
  let v15 : BitVec 32 := Scalar.remsi v14 c8_i32_14
  let c256_i32 : BitVec 32 := 256#32
  let v16 : BitVec 32 := Scalar.muli v15 c256_i32
  let c0_i32_18 : BitVec 32 := 0#32
  ![v16.toNat, 0]
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.addi v2 c4_i32
  let c8_i32_12 : BitVec 32 := 8#32
  let v13 : BitVec 32 := Scalar.remsi v12 c8_i32_12
  let c1_i32_16 : BitVec 32 := 1#32
  let v17 : BitVec 32 := Scalar.muli v13 c1_i32_16
  let v18 : BitVec 32 := Scalar.addi c0_i32_17 v17
  v18.toNat
def k0_off19 (d0 : Dev nD) (c0_i32_22 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_20 : BitVec 32 := 1#32
  let v25 : BitVec 32 := Scalar.addi v2 c1_i32_20
  let c8_i32_21 : BitVec 32 := 8#32
  let v26 : BitVec 32 := Scalar.addi v25 c8_i32_21
  let v27 : BitVec 32 := Scalar.subi v26 c0_i32_22
  let c8_i32_23 : BitVec 32 := 8#32
  let v28 : BitVec 32 := Scalar.remsi v27 c8_i32_23
  let c256_i32_24 : BitVec 32 := 256#32
  let v29 : BitVec 32 := Scalar.muli v28 c256_i32_24
  let c0_i32_29 : BitVec 32 := 0#32
  ![v29.toNat, 0]
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_27 : BitVec 32 := 1#32
  let v30 : BitVec 32 := Scalar.muli v4 c1_i32_27
  let v31 : BitVec 32 := Scalar.addi c0_i32_28 v30
  v31.toNat
def k0_off20 (d0 : Dev nD) (c0_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v38 : BitVec 32 := Scalar.addi v2 c1_i32_31
  let v39 : BitVec 32 := Scalar.addi v38 c0_i32_32
  let c8_i32_33 : BitVec 32 := 8#32
  let v40 : BitVec 32 := Scalar.remsi v39 c8_i32_33
  let c256_i32_34 : BitVec 32 := 256#32
  let v41 : BitVec 32 := Scalar.muli v40 c256_i32_34
  let c0_i32_39 : BitVec 32 := 0#32
  ![v41.toNat, 0]
def k0_dev5 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_37 : BitVec 32 := 1#32
  let v42 : BitVec 32 := Scalar.muli v7 c1_i32_37
  let v43 : BitVec 32 := Scalar.addi c0_i32_38 v42
  v43.toNat
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_70 : BitVec 32 := 1#32
  let v75 : BitVec 32 := Scalar.muli v4 c1_i32_70
  let v76 : BitVec 32 := Scalar.addi c0_i32_71 v75
  v76.toNat
def k0_dev7 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_80 : BitVec 32 := 1#32
  let v87 : BitVec 32 := Scalar.muli v7 c1_i32_80
  let v88 : BitVec 32 := Scalar.addi c0_i32_81 v87
  v88.toNat
def k0_dev8 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_112 : BitVec 32 := 1#32
  let v120 : BitVec 32 := Scalar.muli v4 c1_i32_112
  let v121 : BitVec 32 := Scalar.addi c0_i32_113 v120
  v121.toNat
def k0_dev9 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_122 : BitVec 32 := 1#32
  let v132 : BitVec 32 := Scalar.muli v7 c1_i32_122
  let v133 : BitVec 32 := Scalar.addi c0_i32_123 v132
  v133.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2048x1024 : Shape := ⟨2, ![2048, 1024]⟩
abbrev S1024x8192 : Shape := ⟨2, ![1024, 8192]⟩
abbrev S2048x8192 : Shape := ⟨2, ![2048, 8192]⟩
abbrev S8192x1024 : Shape := ⟨2, ![8192, 1024]⟩
abbrev S2048x64x128 : Shape := ⟨3, ![2048, 64, 128]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S64x2048x2048 : Shape := ⟨3, ![64, 2048, 2048]⟩
abbrev S1x2048x2048 : Shape := ⟨3, ![1, 2048, 2048]⟩
abbrev S64x2048 : Shape := ⟨2, ![64, 2048]⟩
abbrev S64x2048x1 : Shape := ⟨3, ![64, 2048, 1]⟩
abbrev S1x2048x1 : Shape := ⟨3, ![1, 2048, 1]⟩
abbrev S64x128x2048 : Shape := ⟨3, ![64, 128, 2048]⟩

abbrev nBuf : Space → Nat
  | .hbm => 131
  | .vmem => 0
  | .smem => 0
  | _ => 0

abbrev hbmTy0_0 (i : Nat) : BufTy := match i % 128 with
  | 0 => ⟨S2048x1024, .bf16⟩
  | 1 => ⟨S1024x8192, .bf16⟩
  | 2 => ⟨S2048x8192, .bf16⟩
  | 3 => ⟨S2048x8192, .bf16⟩
  | 4 => ⟨S8192x1024, .bf16⟩
  | 5 => ⟨S2048x8192, .f32⟩
  | 6 => ⟨S2048x8192, .bf16⟩
  | 7 => ⟨S2048x64x128, .bf16⟩
  | 8 => ⟨S2048x64x128, .bf16⟩
  | 9 => ⟨S2048x64x128, .bf16⟩
  | 10 => ⟨S2048, .i32⟩
  | 11 => ⟨S_, .i32⟩
  | 12 => ⟨S_, .i32⟩
  | 13 => ⟨S2048, .i32⟩
  | 14 => ⟨S2048, .i32⟩
  | 15 => ⟨S2048, .i32⟩
  | 16 => ⟨S_, .i32⟩
  | 17 => ⟨S2048, .i32⟩
  | 18 => ⟨S2048, .i1⟩
  | 19 => ⟨S2048, .i32⟩
  | 20 => ⟨S2048, .i32⟩
  | 21 => ⟨S_, .i32⟩
  | 22 => ⟨S2048, .i32⟩
  | 23 => ⟨S2048, .i1⟩
  | 24 => ⟨S2048, .i1⟩
  | 25 => ⟨S_, .i32⟩
  | 26 => ⟨S2048, .i32⟩
  | 27 => ⟨S2048, .i32⟩
  | 28 => ⟨S2048, .i32⟩
  | 29 => ⟨S2048x1, .i32⟩
  | 30 => ⟨S2048, .i32⟩
  | 31 => ⟨S_, .i32⟩
  | 32 => ⟨S_, .i32⟩
  | 33 => ⟨S2048, .i32⟩
  | 34 => ⟨S2048, .i32⟩
  | 35 => ⟨S2048, .i32⟩
  | 36 => ⟨S_, .i32⟩
  | 37 => ⟨S2048, .i32⟩
  | 38 => ⟨S2048, .i1⟩
  | 39 => ⟨S2048, .i32⟩
  | 40 => ⟨S2048, .i32⟩
  | 41 => ⟨S_, .i32⟩
  | 42 => ⟨S2048, .i32⟩
  | 43 => ⟨S2048, .i1⟩
  | 44 => ⟨S2048, .i1⟩
  | 45 => ⟨S_, .i32⟩
  | 46 => ⟨S2048, .i32⟩
  | 47 => ⟨S2048, .i32⟩
  | 48 => ⟨S2048, .i32⟩
  | 49 => ⟨S1x2048, .i32⟩
  | 50 => ⟨S2048x2048, .i32⟩
  | 51 => ⟨S2048x2048, .i32⟩
  | 52 => ⟨S2048x2048, .i1⟩
  | 53 => ⟨S_, .i32⟩
  | 54 => ⟨S1x2048, .i32⟩
  | 55 => ⟨S1x2048, .i1⟩
  | 56 => ⟨S2048x2048, .i1⟩
  | 57 => ⟨S2048x2048, .i1⟩
  | 58 => ⟨S2048x2048, .i32⟩
  | 59 => ⟨S2048x2048, .i32⟩
  | 60 => ⟨S2048x2048, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S2048x2048, .i32⟩
  | 68 => ⟨S2048x2048, .i32⟩
  | 69 => ⟨S_, .i32⟩
  | 70 => ⟨S2048x2048, .i32⟩
  | 71 => ⟨S2048x2048, .i1⟩
  | 72 => ⟨S_, .i32⟩
  | 73 => ⟨S2048x2048, .i32⟩
  | 74 => ⟨S2048x2048, .i1⟩
  | 75 => ⟨S_, .i32⟩
  | 76 => ⟨S_, .i1⟩
  | 77 => ⟨S2048x2048, .i1⟩
  | 78 => ⟨S2048x2048, .i1⟩
  | 79 => ⟨S2048x2048, .i1⟩
  | 80 => ⟨S2048x2048, .i32⟩
  | 81 => ⟨S2048x2048, .i32⟩
  | 82 => ⟨S2048x2048, .i32⟩
  | 83 => ⟨S_, .i32⟩
  | 84 => ⟨S2048x2048, .i32⟩
  | 85 => ⟨S2048x2048, .i1⟩
  | 86 => ⟨S2048x2048, .i1⟩
  | 87 => ⟨S64x2048x2048, .f32⟩
  | 88 => ⟨S64x2048x2048, .bf16⟩
  | 89 => ⟨S64x2048x2048, .f32⟩
  | 90 => ⟨S_, .f32⟩
  | 91 => ⟨S64x2048x2048, .f32⟩
  | 92 => ⟨S64x2048x2048, .f32⟩
  | 93 => ⟨S1x2048x2048, .i1⟩
  | 94 => ⟨S_, .f32⟩
  | 95 => ⟨S_, .f32⟩
  | 96 => ⟨S64x2048x2048, .i1⟩
  | 97 => ⟨S64x2048x2048, .f32⟩
  | 98 => ⟨S64x2048x2048, .f32⟩
  | 99 => ⟨S_, .f32⟩
  | 100 => ⟨S64x2048, .f32⟩
  | 101 => ⟨S64x2048x1, .f32⟩
  | 102 => ⟨S64x2048x2048, .f32⟩
  | 103 => ⟨S64x2048x2048, .f32⟩
  | 104 => ⟨S64x2048x2048, .f32⟩
  | 105 => ⟨S_, .i1⟩
  | 106 => ⟨S2048, .i1⟩
  | 107 => ⟨S1x2048x1, .i1⟩
  | 108 => ⟨S_, .f32⟩
  | 109 => ⟨S64x2048, .f32⟩
  | 110 => ⟨S64x2048x1, .f32⟩
  | 111 => ⟨S_, .f32⟩
  | 112 => ⟨S_, .f32⟩
  | 113 => ⟨S64x2048x1, .i1⟩
  | 114 => ⟨S64x2048x1, .f32⟩
  | 115 => ⟨S64x2048x1, .f32⟩
  | 116 => ⟨S64x2048x2048, .f32⟩
  | 117 => ⟨S64x2048x2048, .f32⟩
  | 118 => ⟨S1x2048x1, .i1⟩
  | 119 => ⟨S_, .f32⟩
  | 120 => ⟨S_, .f32⟩
  | 121 => ⟨S64x2048x2048, .i1⟩
  | 122 => ⟨S64x2048x2048, .f32⟩
  | 123 => ⟨S64x2048x2048, .f32⟩
  | 124 => ⟨S2048x64x128, .f32⟩
  | 125 => ⟨S64x128x2048, .f32⟩
  | 126 => ⟨S2048x64x128, .f32⟩
  | 127 => ⟨S2048x8192, .f32⟩
  | _ => ⟨S2048x1024, .bf16⟩

abbrev hbmTy0_1 (i : Nat) : BufTy := match i % 128 with
  | 0 => ⟨S8192x1024, .f32⟩
  | 1 => ⟨S2048x1024, .f32⟩
  | 2 => ⟨S2048x1024, .bf16⟩
  | _ => ⟨S2048x1024, .bf16⟩

abbrev hbmTy (i : Nat) : BufTy := match i / 128 with
  | 0 => hbmTy0_0 i
  | 1 => hbmTy0_1 i
  | _ => ⟨S2048x1024, .bf16⟩

abbrev bufTy : (tb : Table) → Fin (tcTables nBuf tb) → BufTy
  | .hbm, ⟨i, _⟩ => hbmTy i
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_c_1 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_c_2 : Ref sig .tc := ⟨.hbm, 61, rfl⟩
abbrev main_call2_v0 : Ref sig .tc := ⟨.hbm, 62, rfl⟩
abbrev main_call2_c : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_1 : Ref sig .tc := ⟨.hbm, 69, rfl⟩
abbrev main_call2_v5 : Ref sig .tc := ⟨.hbm, 70, rfl⟩
abbrev main_call2_v6 : Ref sig .tc := ⟨.hbm, 71, rfl⟩
abbrev main_call2_c_2 : Ref sig .tc := ⟨.hbm, 72, rfl⟩
abbrev main_call2_v7 : Ref sig .tc := ⟨.hbm, 73, rfl⟩
abbrev main_call2_v8 : Ref sig .tc := ⟨.hbm, 74, rfl⟩
abbrev main_call2_c_3 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_v21 : Ref sig .tc := ⟨.hbm, 82, rfl⟩
abbrev main_c_3 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_4 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v31 : Ref sig .tc := ⟨.hbm, 98, rfl⟩
abbrev main_cst_5 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_c_6 : Ref sig .tc := ⟨.hbm, 105, rfl⟩
abbrev main_v37 : Ref sig .tc := ⟨.hbm, 106, rfl⟩
abbrev main_v38 : Ref sig .tc := ⟨.hbm, 107, rfl⟩
abbrev main_cst_7 : Ref sig .tc := ⟨.hbm, 108, rfl⟩
abbrev main_v39 : Ref sig .tc := ⟨.hbm, 109, rfl⟩
abbrev main_v40 : Ref sig .tc := ⟨.hbm, 110, rfl⟩
abbrev main_cst_8 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩

abbrev nD : Nat := 1
abbrev τ : Topo := Topo.v7x

variable {F : FTy → Type} [FloatOps F]
-- ==== Proof.Cells.lean ====
/- The protocol of the fused attention kernel's ring: which semaphores there are, who waits on each, who
   pays it, how much, and what — with which contents — each payment hands over.

   A device `c` has a barrier cell (its RIGHT neighbour signals it once, handing its landing buffer),
   seven send and seven receive cells of the reduce-scatter, and four plus three send and receive cells of
   the two all-gather streams (the right stream's fourth carries the copy across the ring). -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline's copy and the ring's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The ring -/

/-- `n` places to the right of `c`. Chunks of 256 rows are numbered by the devices too. -/
def up (n : ℕ) (c : Dev nD) : Dev nD := ⟨(c.val + n) % 8, Nat.mod_lt _ (by decide)⟩
abbrev nxt (c : Dev nD) : Dev nD := up 1 c
abbrev prv (c : Dev nD) : Dev nD := up 7 c

theorem up_val (n : ℕ) (c : Dev nD) : (up n c).val = (c.val + n) % 8 := rfl
theorem up_up (a b : ℕ) (c : Dev nD) : up a (up b c) = up (b + a) c := Fin.ext (by simp only [up_val]; omega)
theorem up_zero (c : Dev nD) : up 0 c = c := Fin.ext (by rw [up_val]; have : c.val < 8 := c.isLt; omega)
theorem up_mod (n : ℕ) (c : Dev nD) : up (n + 8) c = up n c := Fin.ext (by simp only [up_val]; omega)
theorem up_eight (c : Dev nD) : up 8 c = c := (up_mod 0 c).trans (up_zero c)
theorem up_inv (n : ℕ) (c : Dev nD) : up (7 * n) (up n c) = c := by
  rw [up_up]; exact Fin.ext (by rw [up_val]; have : c.val < 8 := c.isLt; omega)
theorem up_inv' (n : ℕ) (c : Dev nD) : up n (up (7 * n) c) = c := by
  rw [up_up]; exact Fin.ext (by rw [up_val]; have : c.val < 8 := c.isLt; omega)
/-- The rotation by `n` places. -/
def rot (n : ℕ) : Dev nD ≃ Dev nD := ⟨up n, up (7 * n), up_inv n, up_inv' n⟩

/-! ## The semaphores -/

/-- barrier; reduce-scatter send, receive; right stream send, receive; left stream send, receive. -/
abbrev K : Type := Unit ⊕ ((Fin 7 ⊕ Fin 7) ⊕ ((Fin 4 ⊕ Fin 4) ⊕ (Fin 4 ⊕ Fin 4)))
instance : DecidableEq K := inferInstanceAs (DecidableEq (Unit ⊕ ((Fin 7 ⊕ Fin 7) ⊕ ((Fin 4 ⊕ Fin 4) ⊕ (Fin 4 ⊕ Fin 4)))))
instance : Fintype K := inferInstanceAs (Fintype (Unit ⊕ ((Fin 7 ⊕ Fin 7) ⊕ ((Fin 4 ⊕ Fin 4) ⊕ (Fin 4 ⊕ Fin 4)))))
abbrev kBar : K := .inl ()
abbrev kRsS (s : Fin 7) : K := .inr (.inl (.inl s))
abbrev kRsR (s : Fin 7) : K := .inr (.inl (.inr s))
abbrev kArS (t : Fin 4) : K := .inr (.inr (.inl (.inl t)))
abbrev kArR (t : Fin 4) : K := .inr (.inr (.inl (.inr t)))
abbrev kAlS (t : Fin 4) : K := .inr (.inr (.inr (.inl t)))
abbrev kAlR (t : Fin 4) : K := .inr (.inr (.inr (.inr t)))

abbrev dq (n : ℕ) (h : n < 36) : DmaSem sig := (⟨n, h⟩ : Fin 36)

def csem : K → SemLoc sig
  | .inl _ => .reg barrier0
  | .inr (.inl (.inl s)) => .dma (dq (6 + s.val) (by omega))
  | .inr (.inl (.inr s)) => .dma (dq (13 + s.val) (by omega))
  | .inr (.inr (.inl (.inl t))) => .dma (dq (20 + t.val) (by omega))
  | .inr (.inr (.inl (.inr t))) => .dma (dq (24 + t.val) (by omega))
  | .inr (.inr (.inr (.inl t))) => .dma (dq (28 + t.val) (by omega))
  | .inr (.inr (.inr (.inr t))) => .dma (dq (32 + t.val) (by omega))

theorem csem_inj : ∀ k k' : K, csem k = csem k' → k = k' := by decide

/-- Which of the ring's cells a semaphore is. -/
def kOf (sm : SemLoc sig) : Option K := if h : ∃ k, csem k = sm then some h.choose else none
theorem kOf_csem (k : K) : kOf (csem k) = some k := by
  unfold kOf
  rw [dif_pos ⟨k, rfl⟩]
  have h : ∃ k', csem k' = csem k := ⟨k, rfl⟩
  exact congrArg some (csem_inj _ _ h.choose_spec)
theorem kOf_eq_some {sm : SemLoc sig} {k : K} (h : kOf sm = some k) : csem k = sm := by
  unfold kOf at h
  split at h
  · rename_i h'; cases h; exact h'.choose_spec
  · cases h

abbrev kcell (ck : Dev nD × K) : GSem nD τ sig := ((ck.1 : Thread nD τ), csem ck.2)
abbrev cell (c : Dev nD) (k : K) : GSem nD τ sig := kcell (c, k)

theorem kcell_injective : Function.Injective (kcell : Dev nD × K → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_inj _ _ h2]

/-- The last cells of the left stream's arrays are never used. -/
def used : K → Bool
  | .inr (.inr (.inr (.inl t))) => decide (t ≠ 3)
  | .inr (.inr (.inr (.inr t))) => decide (t ≠ 3)
  | _ => true

/-- How far right of a device the cell it pays lies. -/
def sh : K → ℕ
  | .inl _ => 7
  | .inr (.inl (.inl _)) => 0
  | .inr (.inl (.inr _)) => 1
  | .inr (.inr (.inl (.inl _))) => 0
  | .inr (.inr (.inl (.inr t))) => if t = 3 then 4 else 1
  | .inr (.inr (.inr (.inl _))) => 0
  | .inr (.inr (.inr (.inr _))) => 7

/-- The level of a cell: send cells below the barrier, the barrier below the reduce-scatter receives in their order, those
    below the all-gather receives in theirs. -/
def levK : K → ℕ
  | .inl _ => 1
  | .inr (.inl (.inl _)) => 0
  | .inr (.inl (.inr s)) => 2 + s.val
  | .inr (.inr (.inl (.inl _))) => 0
  | .inr (.inr (.inl (.inr t))) => 10 + t.val
  | .inr (.inr (.inr (.inl _))) => 0
  | .inr (.inr (.inr (.inr t))) => 10 + t.val

/-! ## The memrefs -/

abbrev xM : Memref sig .tc .vmem S2048x1024 .bf16 := Memref.whole cc0_stg0_0
abbrev wqM : Memref sig .tc .vmem S1024x1024 .bf16 := Memref.whole cc0_stg1_0
abbrev keM : Memref sig .tc .vmem S2048x1024 .bf16 := Memref.whole cc0_stg2_0
abbrev veM : Memref sig .tc .vmem S2048x1024 .bf16 := Memref.whole cc0_stg3_0
abbrev woM : Memref sig .tc .vmem S1024x1024 .bf16 := Memref.whole cc0_stg4_0
abbrev outM : Memref sig .tc .vmem S2048x1024 .bf16 := Memref.whole cc0_stg5_0
abbrev qM : Memref sig .tc .vmem S2048x1024 .bf16 := Memref.whole cc0_scratch0
abbrev ctM : Memref sig .tc .vmem S2048x1024 .bf16 := Memref.whole cc0_scratch1
abbrev rsM : Memref sig .tc .vmem S7x256x1024 .bf16 := Memref.whole cc0_scratch2

theorem rowR_inb (k : Dev nD) : ∀ a, (![256 * k.val, 0] : Fin 2 → ℕ) a + S256x1024.size a ≤ S2048x1024.size a := by
  revert k; decide
/-- The rows of chunk `k`. -/
abbrev rowR (k : Dev nD) : Rect S2048x1024 := Rect.unit (s := S2048x1024) ![256 * k.val, 0] S256x1024.size (rowR_inb k)
/-- The rows of chunk `k` of the result. -/
abbrev outRows (k : Dev nD) : Memref sig .tc .vmem S256x1024 .bf16 := outM.slice (rowR k) (fun _ => rfl)

theorem slotR_inb (s : Fin 7) : ∀ a, (![s.val, 0, 0] : Fin 3 → ℕ) a + S1x256x1024.size a ≤ S7x256x1024.size a := by
  revert s; decide
abbrev slotR (s : Fin 7) : Rect S7x256x1024 := Rect.unit (s := S7x256x1024) ![s.val, 0, 0] S1x256x1024.size (slotR_inb s)
abbrev slotU (s : Fin 7) : Memref sig .tc .vmem S1x256x1024 .bf16 := rsM.slice (slotR s) (fun _ => rfl)
abbrev slotM (s : Fin 7) : Memref sig .tc .vmem S256x1024 .bf16 := (slotU s).squeeze S256x1024 squeezes_S1x256x1024_S256x1024

abbrev N : ℕ := (outRows 0).view.dmaCredit
theorem N_pos : 0 < N := View.dmaCredit_pos _ (by decide)
theorem credit_rows (k : Dev nD) : (outRows k).view.dmaCredit = N := rfl
theorem credit_slot (s : Fin 7) : (slotM s).view.dmaCredit = N := rfl

abbrev Blk (F : FTy → Type) : Type := Vec F S256x1024 .bf16

/-- Device `d` holds chunk `k` of its result buffer at share `q`, contents `X`. -/
abbrev own (d : Dev nD) (k : Dev nD) (q : PosShare TreeShare) (X : Blk F) : sProp 𝕄 :=
  owns (Ix := Unit) (Val := Elt F) (Name := ℕ) (U := UU) (Lvl := ℕ) (d : Thread nD τ) (outRows k) q X
abbrev ownAny (d : Dev nD) (k : Dev nD) : sProp 𝕄 := iprop(∃ X : Blk F, own d k fullShare X)
/-- Device `d`'s slot `s` of the landing buffer, as the copy writes it. -/
abbrev slot (d : Dev nD) (s : Fin 7) (X : Blk F) : sProp 𝕄 :=
  owns (Ix := Unit) (Val := Elt F) (Name := ℕ) (U := UU) (Lvl := ℕ) (d : Thread nD τ) (slotM s) fullShare X
abbrev slotAny (d : Dev nD) (s : Fin 7) : sProp 𝕄 := iprop(∃ X : Blk F, slot d s X)

/-- Chunk `k` of the result buffers of `n` devices, `d` and those to its LEFT. -/
def trailL : ℕ → Dev nD → Dev nD → sProp 𝕄
  | 0, _, _ => iprop(emp)
  | n + 1, d, k => iprop(ownAny (F := F) d k ∗ trailL n (prv d) k)
/-- The same to its RIGHT. -/
def trailR : ℕ → Dev nD → Dev nD → sProp 𝕄
  | 0, _, _ => iprop(emp)
  | n + 1, d, k => iprop(ownAny (F := F) d k ∗ trailR n (nxt d) k)

omit [FloatOps F] [Named F] in
theorem trailL_succ (n : ℕ) (d k : Dev nD) : trailL (F := F) (n + 1) d k = iprop(ownAny (F := F) d k ∗ trailL n (prv d) k) := rfl
omit [FloatOps F] [Named F] in
theorem trailR_succ (n : ℕ) (d k : Dev nD) : trailR (F := F) (n + 1) d k = iprop(ownAny (F := F) d k ∗ trailR n (nxt d) k) := rfl

/-! ## Contents -/

/-- Trip number `s` of the reduce-scatter loop. -/
def tr (s : ℕ) : Fin k0_t1_loop.trips := ⟨s % 8, by have : k0_t1_loop.trips = 8 := by decide
                                                    rw [this]; exact Nat.mod_lt _ (by decide)⟩
theorem trips_eq : k0_t1_loop.trips = 8 := by decide
theorem tr_val (t : Fin k0_t1_loop.trips) : tr t.val = t :=
  Fin.ext (Nat.mod_eq_of_lt (by have := t.isLt; have := trips_eq; omega))

/-- The launch contents of the five argument blocks of device `c`. -/
abbrev inX (c : Dev nD) : Vec F S2048x1024 .bf16 := m ((c : Thread nD τ).loc main_arg0)
abbrev inWq (c : Dev nD) : Vec F S1024x1024 .bf16 := m ((c : Thread nD τ).loc main_arg1)
abbrev inK (c : Dev nD) : Vec F S2048x1024 .bf16 := m ((c : Thread nD τ).loc main_arg2)
abbrev inV (c : Dev nD) : Vec F S2048x1024 .bf16 := m ((c : Thread nD τ).loc main_arg3)
abbrev inWo (c : Dev nD) : Vec F S1024x1024 .bf16 := m ((c : Thread nD τ).loc main_arg4)

/-- The device's place along the mesh axis, as the kernel computes it. -/
abbrev word2 (c : Dev nD) : BitVec 32 := Scalar.remsi (Scalar.divsi (Dev.word c) 1#32) 8#32

/-- Chunk of trip `t` on device `c`. -/
abbrev chunk (c : Dev nD) (t : Fin k0_t1_loop.trips) : Dev nD := up (8 - t.val) c

theorem colR_inb (h : Fin 8) : ∀ a, (![0, 128 * h.val] : Fin 2 → ℕ) a + S2048x128.size a ≤ S2048x1024.size a := by
  revert h; decide
abbrev colR (h : Fin 8) : Rect S2048x1024 := Rect.unit (s := S2048x1024) ![0, 128 * h.val] S2048x128.size (colR_inb h)
theorem blkR_inb (h : Fin 8) : ∀ a, (![0, 128 * h.val] : Fin 2 → ℕ) a + S256x128.size a ≤ S256x1024.size a := by
  revert h; decide
/-- The columns of head `h` in a chunk of 256 rows. -/
abbrev blkR (h : Fin 8) : Rect S256x1024 := Rect.unit (s := S256x1024) ![0, 128 * h.val] S256x128.size (blkR_inb h)
abbrev hdOf (j : S256x1024.Idx) : Fin 8 := ⟨(j 1).val / 128, by have : (j 1).val < 1024 := (j 1).isLt; omega⟩
abbrev hdIx (j : S256x1024.Idx) : S256x128.Idx :=
  fun a => match a with
    | ⟨0, _⟩ => ⟨(j 0).val, (j 0).isLt⟩
    | ⟨1, _⟩ => ⟨(j 1).val % 128, Nat.mod_lt _ (by decide)⟩

/-- The projected queries of the chunk, all heads. -/
def qOf (c : Dev nD) (t : Fin k0_t1_loop.trips) : Blk F := k0_pay1 (fun j => inX m c ((rowR (chunk c t)).emb j)) (inWq m c)
/-- The additive mask of the chunk. -/
def biasOf (c : Dev nD) (t : Fin k0_t1_loop.trips) : FVec F S256x2048 .f32 := k0_pay6 (k0_pay2 (word2 c) 0#32 1#32 t) k0_pay3 k0_pay4 k0_pay5
/-- The context of head `h`. -/
def headOf (c : Dev nD) (t : Fin k0_t1_loop.trips) (h : Fin 8) : Vec F S256x128 .bf16 :=
  k0_pay8 (biasOf c t) (fun j => qOf m c t ((blkR h).emb j)) (fun j => inK m c ((colR h).emb j)) (fun j => inV m c ((colR h).emb j))
/-- The context of all heads, side by side. -/
def ctxOf (c : Dev nD) (t : Fin k0_t1_loop.trips) : Blk F := fun j => headOf m c t (hdOf j) (hdIx j)
/-- Device `c`'s contribution to the chunk of its trip `t`. -/
def part (c : Dev nD) (t : Fin k0_t1_loop.trips) : Blk F := k0_pay15 (ctxOf m c t) (inWo m c)
/-- What the copy writes into a slot, as the load of the slot's own shape finds it. -/
abbrev unsq (X : Blk F) : Vec F S1x256x1024 .bf16 := fun i => X ((Shape.reshapeEquiv squeezes_S1x256x1024_S256x1024.numel_eq).symm i)
/-- The partial sum of device `c` after trip `s`. -/
def acc : ℕ → Dev nD → Blk F
  | 0, c => part m c (tr 0)
  | s + 1, c => k0_pay16 (part m c (tr (s + 1))) (unsq (acc s (prv c)))
/-- The finished chunk `k`. -/
def fin (k : Dev nD) : Blk F := acc m 7 (prv k)

/-! ## The schedule -/

abbrev qz : PosShare TreeShare := fullShare.left
abbrev qr : PosShare TreeShare := fullShare.right.left
abbrev ql : PosShare TreeShare := fullShare.right.right

/-- What paying cell `k` of device `c` hands `c`:
    * barrier: the landing buffer of the right neighbour, slot by slot;
    * reduce-scatter receive `s`: slot `s` at the left neighbour's partial sum, with that chunk of the result buffers of the
      `s + 1` devices to the left;
    * right stream receive: the finished chunk in the device's own result buffer, and that chunk of the devices it is yet to
      go to; likewise left; the copy across the ring the finished chunk alone;
    * all-gather sends: the source's share back. -/
def pay (c : Dev nD) : K → sProp 𝕄
  | .inl _ => bigSep Finset.univ fun s : Fin 7 => slotAny (F := F) (nxt c) s
  | .inr (.inl (.inl _)) => iprop(emp)
  | .inr (.inl (.inr s)) => iprop(slot c s (acc m s.val (prv c)) ∗ trailL (F := F) (s.val + 1) (prv c) (up (7 - s.val) c))
  | .inr (.inr (.inl (.inl t))) =>
      if t = 0 then own c (nxt c) qr (fin m (nxt c))
      else if t = 3 then own c (nxt c) qz (fin m (nxt c))
      else own c (up (9 - t.val) c) fullShare (fin m (up (9 - t.val) c))
  | .inr (.inr (.inl (.inr t))) =>
      if t = 3 then own c (up 5 c) fullShare (fin m (up 5 c))
      else iprop(own c (up (8 - t.val) c) fullShare (fin m (up (8 - t.val) c)) ∗ trailR (F := F) (2 - t.val) (nxt c) (up (8 - t.val) c))
  | .inr (.inr (.inr (.inl t))) =>
      if t = 0 then own c (nxt c) ql (fin m (nxt c))
      else own c (up (1 + t.val) c) fullShare (fin m (up (1 + t.val) c))
  | .inr (.inr (.inr (.inr t))) =>
      iprop(own c (up (2 + t.val) c) fullShare (fin m (up (2 + t.val) c)) ∗ trailL (F := F) (2 - t.val) (prv c) (up (2 + t.val) c))

theorem pay_bar (c : Dev nD) : pay m c kBar = bigSep Finset.univ fun s : Fin 7 => slotAny (F := F) (nxt c) s := rfl
theorem pay_rsS (c : Dev nD) (s : Fin 7) : pay m c (kRsS s) = iprop(emp) := rfl
theorem pay_rsR (c : Dev nD) (s : Fin 7) :
    pay m c (kRsR s) = iprop(slot c s (acc m s.val (prv c)) ∗ trailL (F := F) (s.val + 1) (prv c) (up (7 - s.val) c)) := rfl

omit [FloatOps F] [Named F] in
instance trailL_storable (n : ℕ) (d k : Dev nD) : BI.Storable (upEmb : UEmb _ 𝕄) (trailL (F := F) n d k) := by
  induction n generalizing d with
  | zero => unfold trailL; infer_instance
  | succ n ih => unfold trailL; have := ih (prv d); infer_instance
omit [FloatOps F] [Named F] in
instance trailR_storable (n : ℕ) (d k : Dev nD) : BI.Storable (upEmb : UEmb _ 𝕄) (trailR (F := F) n d k) := by
  induction n generalizing d with
  | zero => unfold trailR; infer_instance
  | succ n ih => unfold trailR; have := ih (nxt d); infer_instance

instance pay_storable (c : Dev nD) (k : K) : BI.Storable (upEmb : UEmb _ 𝕄) (pay (F := F) m c k) := by
  rcases k with _ | (_ | s) | (t | t) | (t | t) <;> unfold pay <;> (repeat' split) <;> infer_instance

def amtK (k : K) : ℕ := if k = kBar then 1 else N

open Classical in
/-- One round, one duty per used cell. -/
def ringRd : Rounds.Schedule (GSem nD τ sig) Unit 𝕄 where
  duties g r := if r = 0 ∧ g.1.2 = .tc ∧ (∃ k, kOf g.2 = some k ∧ used k = true) then {()} else ∅
  unitless _ := False
  amount g _ _ := match kOf g.2 with
    | some k => amtK k
    | none => 1
  payload g _ _ := match kOf g.2 with
    | some k => pay m g.1.1 k
    | none => iprop(emp)
  amount_pos g _ _ _ := by
    split
    · unfold amtK; split
      · exact Nat.one_pos
      · exact N_pos
    · exact Nat.one_pos

instance ringRd_payload_storable (g : GSem nD τ sig) (r : ℕ) (d : Unit) :
    BI.Storable (upEmb : UEmb _ 𝕄) ((ringRd (F := F) m).payload g r d) := by
  show BI.Storable upEmb (match kOf g.2 with
    | some k => pay m g.1.1 k
    | none => iprop(emp))
  split <;> infer_instance

section Sched
variable (c : Dev nD) (k : K)

theorem duties_used (h : used k = true) : (ringRd (F := F) m).duties (cell c k) 0 = {()} := by
  dsimp only [ringRd]; exact if_pos ⟨rfl, rfl, k, kOf_csem k, h⟩
theorem mem_duties (h : used k = true) : () ∈ (ringRd (F := F) m).duties (cell c k) 0 := by
  rw [duties_used m c k h]; exact Finset.mem_singleton_self _
theorem duties_later (g : GSem nD τ sig) : ∀ r, 1 ≤ r → (ringRd (F := F) m).duties g r = ∅ :=
  fun r hr => by dsimp only [ringRd]; rw [if_neg fun h => by omega]
theorem duties_unused (h : used k = false) : ∀ r, 0 ≤ r → (ringRd (F := F) m).duties (cell c k) r = ∅ :=
  fun r _ => by
    dsimp only [ringRd]; rw [if_neg]
    rintro ⟨-, -, k', hk, hu⟩
    rw [kOf_csem] at hk
    cases hk; rw [h] at hu; cases hu
theorem amount_eq (d : Unit) : (ringRd (F := F) m).amount (cell c k) 0 d = amtK k := by
  dsimp only [ringRd]; rw [kOf_csem]
theorem payload_eq (d : Unit) : (ringRd (F := F) m).payload (cell c k) 0 d = pay m c k := by
  dsimp only [ringRd]; rw [kOf_csem]
theorem expect_eq (h : used k = true) : (ringRd (F := F) m).expect (cell c k) 0 = amtK k := by
  unfold Schedule.expect Schedule.amountOf; rw [duties_used m c k h, Finset.sum_singleton, amount_eq]
theorem rest_eq (h : used k = true) :
    bigSep ((ringRd (F := F) m).duties (cell c k) 0 \ ∅) (fun d => (ringRd (F := F) m).payload (cell c k) 0 d) = pay m c k := by
  rw [Finset.sdiff_empty, duties_used m c k h, bigSep_singleton, payload_eq]

end Sched

/-! ## What a device owes, and the levels -/

/-- The payments to other devices, in program order. -/
def payList : List K :=
  [kBar, kRsR 0, kRsR 1, kRsR 2, kRsR 3, kRsR 4, kRsR 5, kRsR 6, kArR 3, kArR 0, kAlR 0, kArR 1, kAlR 1, kArR 2, kAlR 2]

/-- The cell device `c` pays under `k`. -/
abbrev dest (c : Dev nD) (k : K) : GSem nD τ sig := cell (up (sh k) c) k

def OL : List K → Dev nD → CellTallies nD τ sig Unit
  | [], _ => 0
  | k :: l, c => OL l c + tallyAt (dest c k) () (amtK k)

def L (g : GSem nD τ sig) : Finset Unit := if g.1.2 = .tc then {()} else ∅
def lv (g : GSem nD τ sig) (_ : Unit) : ℕ := match kOf g.2 with
  | some k => levK k
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : K) : lv (cell c k) () = levK k := by
  unfold lv; rw [kOf_csem]

theorem cell_eq_iff {a b : Dev nD} {k k' : K} : Iff (cell a k = cell b k') (a = b ∧ k = k') :=
  ⟨fun h => by have := kcell_injective h; exact ⟨congrArg Prod.fst this, congrArg Prod.snd this⟩, fun ⟨h, h'⟩ => by rw [h, h']⟩

theorem OL_pos {l : List K} {c : Dev nD} {g : GSem nD τ sig} {u : Unit} (h : 0 < OL l c g u) : ∃ k ∈ l, g = dest c k := by
  induction l with
  | nil => exact absurd h (Nat.lt_irrefl 0)
  | cons k l ih =>
    unfold OL at h
    rw [Pi.add_apply, Finsupp.add_apply, tallyAt_apply] at h
    by_cases h' : g = dest c k ∧ u = ()
    · exact ⟨k, List.mem_cons_self, h'.1⟩
    · rw [if_neg h', Nat.add_zero] at h
      obtain ⟨k', hk', hg⟩ := ih h
      exact ⟨k', List.mem_cons_of_mem _ hk', hg⟩

omit [FloatOps F] [Named F] in
/-- A device may wait on a semaphore below every cell it owes. -/
theorem mayWait_sem (c : Dev nD) (sm : SemLoc sig) (l : List K) (n : ℕ) (hn : lv ((c : Thread nD τ), sm) () ≤ n) (hl : ∀ k ∈ l, n < levK k) :
    (levAts L lv : sProp 𝕄) ⊢ MayWait (c : Thread nD τ) sm () (OL l c) :=
  MayOwe.of_cut (L := L) (lev := lv) n (fun p hp => by rw [Finset.mem_singleton.mp hp, L_tc]; exact Finset.mem_singleton_self _)
    (fun g u hg => by obtain ⟨k, _, rfl⟩ := OL_pos hg; exact Finset.mem_singleton_self _)
    (fun p hp => by rw [Finset.mem_singleton.mp hp]; exact hn)
    (fun g u hg => by
      obtain ⟨k, hk, rfl⟩ := OL_pos hg
      cases u
      rw [lv_cell]; exact hl k hk)

omit [FloatOps F] [Named F] in
theorem mayWait_cell (c : Dev nD) (k : K) (l : List K) (hl : ∀ k' ∈ l, levK k < levK k') :
    (levAts L lv : sProp 𝕄) ⊢ MayWait (c : Thread nD τ) (csem k) () (OL l c) :=
  mayWait_sem c (csem k) l (levK k) (le_of_eq (lv_cell c k)) hl

end Cert.RingProof

end
-- ==== Proof.Steps.lean ====
/- The steps the kernel takes, as rules over the ring's resources: loads and stores of a part of a buffer held at known
   contents, waits for a cell's whole round, the entry signal, and the two kinds of remote copy. -/
module

public import proofs.«01_k».proof.Proof.Cells

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

abbrev 𝒱₀ : Variants := Variants.none

/-- The weakest precondition of a program of device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Mem

/-- Load exactly a slice that is held. -/
theorem ld_part {α : Type} {Q : α → sProp 𝕄} (c : Dev nD) {cs : CoreSpace} {s : Shape} {e : EltTy} {M : Memref sig .tc cs s e} {sz o o' : Fin s.rank → ℕ} {hi : ∀ a, o a + sz a ≤ s.size a} {hi' : ∀ a, o' a + sz a ≤ s.size a} (ho : o = o')
    {h1 : ∀ a, (Rect.unit (s := s) o' sz hi').stride a = 1} {hl : M.view.LoadsAt (Rect.unit (s := s) o sz hi).toLoadRect} {q : PosShare TreeShare} {X : (⟨s.rank, sz⟩ : Shape).Idx → Elt F e} {k : ((⟨s.rank, sz⟩ : Shape).Idx → Elt F e) → Prog (TpuEff nD τ sig (Elt F) Λ₀ .tc) α} :
    (owns (c : Thread nD τ) (M.slice (Rect.unit (s := s) o' sz hi') h1) q X : sProp 𝕄)
      ⊢ iprop((owns (c : Thread nD τ) (M.slice (Rect.unit (s := s) o' sz hi') h1) q X -∗ wpc c (k X) Q)
        -∗ wpc c (.op (.load M (Rect.unit (s := s) o sz hi).toLoadRect hl) k) Q) := by
  subst ho
  unfold owns
  iintro ⟨%f, %hf, H⟩ Hk
  iapply (wp_load_rect 𝒱₀ (c : Thread nD τ) none Set.univ (m := M) (r := Rect.unit (s := s) o sz hi)
    (S := (M.slice (Rect.unit (s := s) o sz hi) h1).view.set) Finset.Subset.rfl) $$ H
  iintro H
  rw [show (M.access (Rect.unit (s := s) o sz hi)).read (Elt F) f = X from hf]
  iapply Hk
  iexists f; isplitr
  · ipureintro; exact hf
  · iexact H

/-- Store exactly a slice that is held. -/
theorem st_part {α : Type} {Q : α → sProp 𝕄} (c : Dev nD) {cs : CoreSpace} {s : Shape} {e : EltTy} {M : Memref sig .tc cs s e} {sz o o' : Fin s.rank → ℕ} {hi : ∀ a, o a + sz a ≤ s.size a} {hi' : ∀ a, o' a + sz a ≤ s.size a} (ho : o = o')
    {h1 : ∀ a, (Rect.unit (s := s) o' sz hi').stride a = 1} {hx : (M.access (Rect.unit (s := s) o sz hi)).Stores Finset.univ}
    {hm : (Finset.univ : Finset (Rect.unit (s := s) o sz hi).shape.Idx) = Finset.univ ∨ ∀ a, (Rect.unit (s := s) o sz hi).stride a = 1} {X : (⟨s.rank, sz⟩ : Shape).Idx → Elt F e} {w : (⟨s.rank, sz⟩ : Shape).Idx → Elt F e} {k : PUnit → Prog (TpuEff nD τ sig (Elt F) Λ₀ .tc) α} :
    (owns (c : Thread nD τ) (M.slice (Rect.unit (s := s) o' sz hi') h1) fullShare X : sProp 𝕄)
      ⊢ iprop((owns (c : Thread nD τ) (M.slice (Rect.unit (s := s) o' sz hi') h1) fullShare w -∗ wpc c (k ⟨⟩) Q)
        -∗ wpc c (.op (.store M (Rect.unit (s := s) o sz hi) w Finset.univ hx hm) k) Q) := by
  subst ho
  unfold owns
  iintro ⟨%f, %hf, H⟩ Hk
  iapply (wp_store 𝒱₀ (c : Thread nD τ) none Set.univ (m := M) (r := Rect.unit (s := s) o sz hi) (Mk := Finset.univ)
    (S := (M.slice (Rect.unit (s := s) o sz hi) h1).view.set) Finset.Subset.rfl) $$ H
  iintro H
  iapply Hk
  iexists _; isplitr
  rotate_left
  · iexact H
  · ipureintro; exact View.read_write_univ _ _

/-- Load a part of a buffer that is held. -/
theorem ld_sub {α : Type} {Q : α → sProp 𝕄} (c : Dev nD) {cs : CoreSpace} {s : Shape} {e : EltTy} {M : Memref sig .tc cs s e} {sz o o' : Fin s.rank → ℕ}
    {hi : ∀ a, o a + sz a ≤ s.size a} {hi' : ∀ a, o' a + sz a ≤ s.size a} (ho : o = o')
    {hl : M.view.LoadsAt (Rect.unit (s := s) o sz hi).toLoadRect} {q : PosShare TreeShare} {X : s.Idx → Elt F e}
    {k : ((⟨s.rank, sz⟩ : Shape).Idx → Elt F e) → Prog (TpuEff nD τ sig (Elt F) Λ₀ .tc) α} :
    (owns (c : Thread nD τ) M q X : sProp 𝕄)
      ⊢ iprop((owns (c : Thread nD τ) M q X -∗ wpc c (k (fun j => X ((Rect.unit (s := s) o' sz hi').emb j))) Q)
        -∗ wpc c (.op (.load M (Rect.unit (s := s) o sz hi).toLoadRect hl) k) Q) := by
  subst ho
  unfold owns
  iintro ⟨%f, %hf, H⟩ Hk
  iapply (wp_load_rect 𝒱₀ (c : Thread nD τ) none Set.univ (m := M) (r := Rect.unit (s := s) o sz hi)
    (S := M.view.set) (View.set_slice_subset M.view (Rect.unit (s := s) o sz hi))) $$ H
  iintro H
  rw [show (M.access (Rect.unit (s := s) o sz hi)).read (Elt F) f = fun j => X ((Rect.unit (s := s) o sz hi).emb j) from by rw [← hf]; rfl]
  iapply Hk
  iexists f; isplitr
  · ipureintro; exact hf
  · iexact H

/-- Store a part of a buffer that is held: the part at what was stored, the rest as it was. -/
theorem st_sub {α : Type} {Q : α → sProp 𝕄} (c : Dev nD) {cs : CoreSpace} {s : Shape} {e : EltTy} {M : Memref sig .tc cs s e} {sz o o' : Fin s.rank → ℕ}
    {hi : ∀ a, o a + sz a ≤ s.size a} {hi' : ∀ a, o' a + sz a ≤ s.size a} (ho : o = o')
    {hx : (M.access (Rect.unit (s := s) o sz hi)).Stores Finset.univ}
    {hm : (Finset.univ : Finset (Rect.unit (s := s) o sz hi).shape.Idx) = Finset.univ ∨ ∀ a, (Rect.unit (s := s) o sz hi).stride a = 1}
    {X : s.Idx → Elt F e} {w : (⟨s.rank, sz⟩ : Shape).Idx → Elt F e} {k : PUnit → Prog (TpuEff nD τ sig (Elt F) Λ₀ .tc) α} :
    (owns (c : Thread nD τ) M fullShare X : sProp 𝕄)
      ⊢ iprop((∀ X' : s.Idx → Elt F e, ⌜(∀ j, X' ((Rect.unit (s := s) o' sz hi').emb j) = w j)
              ∧ ∀ i, i ∉ (Rect.unit (s := s) o' sz hi').set → X' i = X i⌝ -∗ owns (c : Thread nD τ) M fullShare X' -∗ wpc c (k ⟨⟩) Q)
        -∗ wpc c (.op (.store M (Rect.unit (s := s) o sz hi) w Finset.univ hx hm) k) Q) := by
  subst ho
  unfold owns
  iintro ⟨%f, %hf, H⟩ Hk
  iapply (wp_store 𝒱₀ (c : Thread nD τ) none Set.univ (m := M) (r := Rect.unit (s := s) o sz hi) (Mk := Finset.univ)
    (S := M.view.set) (View.set_slice_subset M.view (Rect.unit (s := s) o sz hi))) $$ H
  iintro H
  iapply Hk $$ %(M.view.read (Elt F) ((M.access (Rect.unit (s := s) o sz hi)).write (Elt F) f w Finset.univ)) [] [H]
  · ipureintro
    refine ⟨fun j => ?_, fun i hi' => ?_⟩
    · exact congrFun (View.read_write_univ (v := M.access (Rect.unit (s := s) o sz hi)) f w) j
    · rw [← hf, View.read_apply, View.read_apply, View.write_of_not_mem (v := M.access (Rect.unit (s := s) o sz hi)) f w Finset.univ]
      intro h
      rw [View.setOn_univ, View.set_slice, Finset.mem_map] at h
      obtain ⟨y, hy, he⟩ := h
      exact hi' (M.view.emb.injective he ▸ hy)
  · iexists _; isplitr
    rotate_left
    · iexact H
    · ipureintro; rfl

end Mem

/-! ## The ring's records, shared by all devices -/

variable (m : (ℓ : Loc nD τ sig) → Buf (Elt F) ℓ)

/-- Every cell's invariant under the name the launch gave it, the mark that its round 0 is open, and the levels. -/
def recs (Kn : Dev nD × K → ℕ) : sProp 𝕄 :=
  iprop((bigSep Finset.univ fun ck : Dev nD × K => cellInv ER (ringRd m) (Kn ck) (kcell ck))
    ∗ (bigSep Finset.univ fun ck : Dev nD × K => reached ER (kcell ck) 0) ∗ levAts L lv)

instance recs_persistent (Kn : Dev nD × K → ℕ) : BI.Persistent (recs m Kn) := by unfold recs; infer_instance

variable (Kn : Dev nD × K → ℕ)

theorem recs_inv (c : Dev nD) (k : K) : recs m Kn ⊢ cellInv ER (ringRd m) (Kn (c, k)) (cell c k) := by
  unfold recs
  have h : (bigSep Finset.univ fun ck : Dev nD × K => cellInv ER (ringRd m) (Kn ck) (kcell ck)) ⊢ cellInv ER (ringRd m) (Kn (c, k)) (cell c k) :=
    bigSep_elim (Finset.mem_univ (c, k))
  iintro ⟨H, -, -⟩
  iapply h $$ H
theorem recs_mark (c : Dev nD) (k : K) : recs m Kn ⊢ reached ER (cell c k) 0 := by
  unfold recs
  have h : (bigSep Finset.univ fun ck : Dev nD × K => (reached ER (kcell ck) 0 : sProp 𝕄)) ⊢ reached ER (cell c k) 0 :=
    bigSep_elim (Finset.mem_univ (c, k))
  iintro ⟨-, H, -⟩
  iapply h $$ H
theorem recs_lev : recs m Kn ⊢ levAts L lv := by
  unfold recs
  iintro ⟨-, -, H⟩
  iexact H

section Sync

/-- The position at the start of a cell's round 0, and past it. -/
abbrev pos0 (c : Dev nD) (k : K) : sProp 𝕄 := atPos ER (cell c k) 0 ∅ 0
abbrev pos1 (c : Dev nD) (k : K) : sProp 𝕄 := atPos ER (cell c k) 1 ∅ 0
/-- The one token of round 0. -/
abbrev tok (c : Dev nD) (k : K) : sProp 𝕄 := dutyTok ER (cell c k) 0 ()
abbrev crd (c : Dev nD) (k : K) : sProp 𝕄 := cred (tallyAt (cell c k) () (amtK k))

/-- Wait for a copy's whole credit. -/
theorem wait_dma {α : Type} {Q : α → sProp 𝕄} (c : Dev nD) (k : K) (hu : used k = true) {sm : DmaSem sig} (hs : SemLoc.dma sm = csem k) {sp sp' : Space} {s s' : Shape} {e e' : EltTy}
    {src : Memref sig .tc sp' s' e'} {dst : Memref sig .tc sp s e} {h1 : src.view.WordExact} {h2 : dst.view.WordExact} (hN : dst.view.dmaCredit = amtK k)
    (l : List K) (hl : ∀ k' ∈ l, levK k < levK k') {W : Waits sig Unit} {kk : PUnit → Prog (TpuEff nD τ sig (Elt F) Λ₀ .tc) α} :
    iprop(recs m Kn ∗ crd c k ∗ owes (c : Thread nD τ) (OL l c) W ∗ pos0 c k)
      ⊢ iprop(((∃ W, owes (c : Thread nD τ) (OL l c) W) ∗ pos1 c k ∗ pay m c k -∗ wpc c (kk ⟨⟩) Q)
        -∗ wpc c (.op (.waitDma2 sm src dst h1 h2) kk) Q) := by
  have e : cell c k = ((c : Thread nD τ), SemLoc.dma sm) := Prod.ext rfl hs.symm
  iintro ⟨#HR, Hc, HO, Hat⟩ Hk
  ihave #HI := (recs_inv m Kn c k) $$ HR
  ihave #HM := ((recs_lev m Kn).trans (mayWait_cell c k l hl)) $$ HR
  have hx := expect_eq m c k hu
  have hr := rest_eq m c k hu
  rw [e] at hx hr
  rw [← hs]
  unfold pos0 pos1 crd
  rw [e]
  iapply (Rounds.wp_wait_rest_token 𝒱₀ ER (ringRd m) (c : Thread nD τ) none (κ := Kn (c, k))
      (wpE_waitDma2_eq 𝒱₀ (c : Thread nD τ) none Set.univ) (Set.mem_univ _) () (O := OL l c) (W := W) (R := 0) (m := 0) (T := ∅)
      (by rw [Nat.zero_add, hx, hN])) $$ [Hc HO Hat]
  · isplitr; · iexact HI
    isplitl [Hc]; · rw [hN]; iexact Hc
    isplitl [HO]; · iexact HO
    isplitr; · iexact HM
    iexact Hat
  iintro ⟨HO, Hat, -, Hp⟩
  ihave Hp := (Entails.of_eq hr) $$ Hp
  iapply Hk
  isplitl [HO]; · iexists _; iexact HO
  isplitl [Hat]; · iexact Hat
  iexact Hp

/-- Wait for the entry signal. -/
theorem wait_bar {α : Type} {Q : α → sProp 𝕄} (c : Dev nD) (l : List K) (hl : ∀ k' ∈ l, levK kBar < levK k') {W : Waits sig Unit} {kk : PUnit → Prog (TpuEff nD τ sig (Elt F) Λ₀ .tc) α} :
    iprop(recs m Kn ∗ crd c kBar ∗ owes (c : Thread nD τ) (OL l c) W ∗ pos0 c kBar)
      ⊢ iprop(((∃ W, owes (c : Thread nD τ) (OL l c) W) ∗ pos1 c kBar ∗ pay m c kBar -∗ wpc c (kk ⟨⟩) Q)
        -∗ wpc c (.op (.semWait barrier0 1) kk) Q) := by
  iintro ⟨#HR, Hc, HO, Hat⟩ Hk
  ihave #HI := (recs_inv m Kn c kBar) $$ HR
  ihave #HM := ((recs_lev m Kn).trans (mayWait_cell c kBar l hl)) $$ HR
  iapply (Rounds.wp_wait_rest_token 𝒱₀ ER (ringRd m) (c : Thread nD τ) none (κ := Kn (c, kBar)) (sm := .reg barrier0)
      (wpE_semWait_eq 𝒱₀ (c : Thread nD τ) none Set.univ) (Set.mem_univ _) () (O := OL l c) (W := W) (R := 0) (m := 0) (T := ∅)
      (by rw [Nat.zero_add]; exact (expect_eq m c kBar rfl).symm)) $$ [Hc HO Hat]
  · isplitr; · iexact HI
    isplitl [Hc]; · iexact Hc
    isplitl [HO]; · iexact HO
    isplitr; · iexact HM
    iexact Hat
  iintro ⟨HO, Hat, -, Hp⟩
  ihave Hp := (show (bigSep ((ringRd m).duties ((c : Thread nD τ), SemLoc.reg barrier0) 0 \ ∅) fun d => (ringRd m).payload ((c : Thread nD τ), SemLoc.reg barrier0) 0 d)
    ⊢ pay m c kBar from Entails.of_eq (rest_eq m c kBar rfl)) $$ Hp
  iapply Hk
  isplitl [HO]; · iexists _; iexact HO
  isplitl [Hat]; · iexact Hat
  iexact Hp

/-- The entry signal to the left neighbour, with the landing buffer. -/
theorem signal_bar {α : Type} {Q : α → sProp 𝕄} (c : Dev nD) {n : Dev nD} (hn : n = prv c) (l : List K) {W : Waits sig Unit} {kk : PUnit → Prog (TpuEff nD τ sig (Elt F) Λ₀ .tc) α} :
    iprop(recs m Kn ∗ owes (c : Thread nD τ) (OL (kBar :: l) c) W ∗ tok (prv c) kBar ∗ bigSep Finset.univ fun s : Fin 7 => slotAny (F := F) c s)
      ⊢ iprop((owes (c : Thread nD τ) (OL l c) W -∗ wpc c (kk ⟨⟩) Q)
        -∗ wpc c (.op (.semSignal (Dev.tc n : Thread nD τ) barrier0 1) kk) Q) := by
  subst hn
  iintro ⟨#HR, HO, Ht, Hs⟩ Hk
  ihave #HI := (recs_inv m Kn (prv c) kBar) $$ HR
  ihave #HM := (recs_mark m Kn (prv c) kBar) $$ HR
  iapply (Rounds.wp_signal 𝒱₀ ER (ringRd m) (c : Thread nD τ) none (dst := (prv c : Thread nD τ)) (sem := barrier0) (κ := Kn (prv c, kBar))
      (r := 0) (d := ()) (mem_duties m (prv c) kBar rfl) (amount_eq m (prv c) kBar ()) () (OL l c) rfl) $$ [HO Ht Hs]
  · isplitr; · iexact HI
    isplitl [HO]; · iexact HO
    isplitl [Ht]; · iexact Ht
    isplitl [Hs]
    · rw [show (ringRd m).payload (((prv c : Dev nD) : Thread nD τ), SemLoc.reg barrier0) 0 () = pay m (prv c) kBar from payload_eq m (prv c) kBar ()]
      rw [pay_bar, show nxt (prv c) = c from (up_up 1 7 c).trans (up_eight c)]
      iexact Hs
    iexact HM
  iexact Hk

/-- Close a cell whose round is over, and one that never had any. -/
theorem close_used (c : Dev nD) (k : K) : iprop(recs m Kn ∗ pos1 c k) ⊢ iprop(|={Set.univ}=> semVal (cell c k) 0) := by
  iintro ⟨#HR, Hat⟩
  ihave #HI := (recs_inv m Kn c k) $$ HR
  iapply (Rounds.cell_close ER (ringRd m) (Set.mem_univ (Kn (c, k))) (fun h => h) (R := 1) (duties_later m (cell c k)))
  isplitr; · iexact HI
  iexact Hat
theorem close_unused (c : Dev nD) (k : K) (hu : used k = false) : iprop(recs m Kn ∗ pos0 c k) ⊢ iprop(|={Set.univ}=> semVal (cell c k) 0) := by
  iintro ⟨#HR, Hat⟩
  ihave #HI := (recs_inv m Kn c k) $$ HR
  iapply (Rounds.cell_close ER (ringRd m) (Set.mem_univ (Kn (c, k))) (fun h => h) (R := 0) (duties_unused m c k hu))
  isplitr; · iexact HI
  iexact Hat

/-- A copy of chunk `k` of the result to slot `s` of the right neighbour, its source going along: the neighbour is handed
    the slot at what was copied and the chunk of every device so far. -/
theorem send_rs {α : Type} {Q : α → sProp 𝕄} (c : Dev nD) (s : Fin 7) {n : Dev nD} (hn : n = nxt c) {o : Fin 2 → ℕ} {hi : ∀ a, o a + S256x1024.size a ≤ S2048x1024.size a} (k : Dev nD) (ho : o = ![256 * k.val, 0])
    {o3 : Fin 3 → ℕ} {hi3 : ∀ a, o3 a + S1x256x1024.size a ≤ S7x256x1024.size a} (ho3 : o3 = ![s.val, 0, 0])
    {h1 : ∀ a, (Rect.unit (s := S2048x1024) o S256x1024.size hi).stride a = 1} {h3 : ∀ a, (Rect.unit (s := S7x256x1024) o3 S1x256x1024.size hi3).stride a = 1} {sS sR : DmaSem sig} (hsS : SemLoc.dma sS = csem (kRsS s)) (hsR : SemLoc.dma sR = csem (kRsR s))
    (hk : k = up (8 - s.val) c) {hsc} {hsrc hdst hsem} (l : List K) {W : Waits sig Unit} {kk : PUnit → Prog (TpuEff nD τ sig (Elt F) Λ₀ .tc) α} :
    iprop(recs m Kn ∗ own c k fullShare (acc m s.val c) ∗ slotAny (F := F) (nxt c) s ∗ trailL (F := F) s.val (prv c) k
        ∗ owes (c : Thread nD τ) (OL (kRsR s :: l) c) W ∗ tok c (kRsS s) ∗ tok (nxt c) (kRsR s))
      ⊢ iprop((crd c (kRsS s) ∗ owes (c : Thread nD τ) (OL l c) W -∗ wpc c (kk ⟨⟩) Q)
        -∗ wpc c (.op (.enqueueDma (outM.slice (Rect.unit (s := S2048x1024) o S256x1024.size hi) h1)
            (.remote (Dev.tc n : Thread nD τ) ((rsM.slice (Rect.unit (s := S7x256x1024) o3 S1x256x1024.size hi3) h3).squeeze S256x1024 squeezes_S1x256x1024_S256x1024) (.dma sS) hsc)
            (.dma sR) hsrc hdst hsem) kk) Q) := by
  subst hn; subst ho; subst ho3
  have e1 : cell c (kRsS s) = ((c : Thread nD τ), SemLoc.dma sS) := Prod.ext rfl hsS.symm
  have e2 : cell (nxt c) (kRsR s) = ((nxt c : Thread nD τ), SemLoc.dma sR) := Prod.ext rfl hsR.symm
  iintro ⟨#HR, Hown, ⟨%Y, Hslot⟩, Htr, HO, Ht1, Ht2⟩ Hk
  ihave #HI1 := (recs_inv m Kn c (kRsS s)) $$ HR
  ihave #HI2 := (recs_inv m Kn (nxt c) (kRsR s)) $$ HR
  ihave #HM1 := (recs_mark m Kn c (kRsS s)) $$ HR
  ihave #HM2 := (recs_mark m Kn (nxt c) (kRsR s)) $$ HR
  have hd1 := mem_duties m c (kRsS s) rfl
  have hd2 := mem_duties m (nxt c) (kRsR s) rfl
  have ha1 : (ringRd m).amount (cell c (kRsS s)) 0 () = N := amount_eq m c (kRsS s) ()
  have ha2 : (ringRd m).amount (cell (nxt c) (kRsR s)) 0 () = N := amount_eq m (nxt c) (kRsR s) ()
  have hp1 := payload_eq m c (kRsS s) ()
  have hp2 := payload_eq m (nxt c) (kRsR s) ()
  have hO : OL (kRsR s :: l) c = OL l c + tallyAt (cell (nxt c) (kRsR s)) () N := rfl
  rw [hO]
  have hamt : amtK (kRsS s) = N := rfl
  unfold crd tok
  rw [hamt]
  rw [e1] at hd1 ha1 hp1
  rw [e2] at hd2 ha2 hp2
  rw [e1, e2]
  ihave Hown := (show own c k fullShare (acc m s.val c) ⊢ iprop(∃ f, ⌜(outRows k).view.read (Elt F) f = acc m s.val c⌝ ∗ (outRows k).view.loc (c : Thread nD τ) ↦[(outRows k).view.set]{fullShare} f) from BI.Entails.refl _) $$ Hown
  icases Hown with ⟨%fs, %hfs, Hown⟩
  ihave Hslot := (show slot (nxt c) s Y ⊢ iprop(∃ f, ⌜(slotM s).view.read (Elt F) f = Y⌝ ∗ (slotM s).view.loc (nxt c : Thread nD τ) ↦[(slotM s).view.set]{fullShare} f) from BI.Entails.refl _) $$ Hslot
  icases Hslot with ⟨%fd, %hfd, Hslot⟩
  iapply (Rounds.wp_send_landing_pointsTo_with 𝒱₀ ER (ringRd m) (c : Thread nD τ) none (κ₁ := Kn (c, kRsS s)) (κ₂ := Kn (nxt c, kRsR s))
    (c' := (nxt c : Thread nD τ)) (src := outRows k) (dst := slotM s) (q := fullShare) (fs := fs) (fd := fd) (F := trailL (F := F) s.val (prv c) k)
    (r₁ := 0) (r₂ := 0) (d₁ := ()) (d₂ := ()) hd1 hd2 () () N rfl ha1 ha2 (OL l c) rfl (W := W)
    (by rw [hp1]; exact BI.Entails.refl _)
    (by
      rw [hp2, pay_rsR]
      rw [show prv (nxt c) = c from (up_up 7 1 c).trans (up_eight c), show up (7 - s.val) (nxt c) = k from by rw [hk, up_up]; congr 1; omega]
      rw [trailL_succ]
      iintro ⟨⟨Hd, Ht⟩, Hs⟩
      isplitl [Hd]
      · unfold slot owns
        iexists _; isplitr
        rotate_left
        · iexact Hd
        · ipureintro; rw [View.read_write_univ]; exact hfs
      isplitl [Hs]
      · iexists (acc m s.val c)
        unfold own owns
        iexists fs; isplitr
        · ipureintro; exact hfs
        · iexact Hs
      · iexact Ht))
    $$ [Hown Hslot Htr HO Ht1 Ht2]
  · isplitr; · iexact HI1
    isplitr; · iexact HI2
    isplitl [Hown]; · iexact Hown
    isplitl [Hslot Htr]
    · isplitl [Hslot]; · iexact Hslot
      iexact Htr
    isplitl [HO]; · iexact HO
    isplitl [Ht1]; · iexact Ht1
    isplitr; · iexact HM1
    isplitl [Ht2]; · iexact Ht2
    iexact HM2
  iexact Hk

/-- A copy of chunk `k` of the result to the same rows of device `n`, the source's share coming back on the send cell. -/
theorem send_ag {α : Type} {Q : α → sProp 𝕄} (c : Dev nD) (kS kR : K) (hu1 : used kS = true) (hu2 : used kR = true) (ha1 : amtK kS = N) (ha2 : amtK kR = N) (hsh : sh kS = 0)
    {n : Dev nD} (hn : n = up (sh kR) c) {o : Fin 2 → ℕ} {hi hi' : ∀ a, o a + S256x1024.size a ≤ S2048x1024.size a} (k : Dev nD) (ho : o = ![256 * k.val, 0])
    {h1 : ∀ a, (Rect.unit (s := S2048x1024) o S256x1024.size hi).stride a = 1} {h1' : ∀ a, (Rect.unit (s := S2048x1024) o S256x1024.size hi').stride a = 1} {sS sR : DmaSem sig} (hsS : SemLoc.dma sS = csem kS) (hsR : SemLoc.dma sR = csem kR)
    (q : PosShare TreeShare) (X : Blk F) (R : sProp 𝕄)
    (hp1 : own c k q X ⊢ pay m c kS) (hp2 : iprop(own (up (sh kR) c) k fullShare X ∗ R) ⊢ pay m (up (sh kR) c) kR)
    {hsc} {hsrc hdst hsem} (l : List K) {W : Waits sig Unit} {kk : PUnit → Prog (TpuEff nD τ sig (Elt F) Λ₀ .tc) α} :
    iprop(recs m Kn ∗ own c k q X ∗ ownAny (F := F) (up (sh kR) c) k ∗ R
        ∗ owes (c : Thread nD τ) (OL (kR :: l) c) W ∗ tok c kS ∗ tok (up (sh kR) c) kR)
      ⊢ iprop((crd c kS ∗ owes (c : Thread nD τ) (OL l c) W -∗ wpc c (kk ⟨⟩) Q)
        -∗ wpc c (.op (.enqueueDma (outM.slice (Rect.unit (s := S2048x1024) o S256x1024.size hi) h1)
            (.remote (Dev.tc n : Thread nD τ) (outM.slice (Rect.unit (s := S2048x1024) o S256x1024.size hi') h1') (.dma sS) hsc)
            (.dma sR) hsrc hdst hsem) kk) Q) := by
  subst hn; subst ho
  have e1 : cell c kS = ((c : Thread nD τ), SemLoc.dma sS) := Prod.ext rfl hsS.symm
  have e2 : cell (up (sh kR) c) kR = ((up (sh kR) c : Thread nD τ), SemLoc.dma sR) := Prod.ext rfl hsR.symm
  iintro ⟨#HR, Hown, ⟨%Y, Hdst⟩, HRes, HO, Ht1, Ht2⟩ Hk
  ihave #HI1 := (recs_inv m Kn c kS) $$ HR
  ihave #HI2 := (recs_inv m Kn (up (sh kR) c) kR) $$ HR
  ihave #HM1 := (recs_mark m Kn c kS) $$ HR
  ihave #HM2 := (recs_mark m Kn (up (sh kR) c) kR) $$ HR
  have hd1 := mem_duties m c kS hu1
  have hd2 := mem_duties m (up (sh kR) c) kR hu2
  have hm1 : (ringRd m).amount (cell c kS) 0 () = N := (amount_eq m c kS ()).trans ha1
  have hm2 : (ringRd m).amount (cell (up (sh kR) c) kR) 0 () = N := (amount_eq m (up (sh kR) c) kR ()).trans ha2
  have hq1 := payload_eq m c kS ()
  have hq2 := payload_eq m (up (sh kR) c) kR ()
  have hO : OL (kR :: l) c = OL l c + tallyAt (cell (up (sh kR) c) kR) () (amtK kR) := rfl
  rw [hO, ha2]
  unfold crd tok
  rw [ha1]
  rw [e1] at hd1 hm1 hq1
  rw [e2] at hd2 hm2 hq2
  rw [e1, e2]
  ihave Hown := (show own c k q X ⊢ iprop(∃ f, ⌜(outRows k).view.read (Elt F) f = X⌝ ∗ (outRows k).view.loc (c : Thread nD τ) ↦[(outRows k).view.set]{q} f) from BI.Entails.refl _) $$ Hown
  icases Hown with ⟨%fs, %hfs, Hown⟩
  ihave Hdst := (show own (up (sh kR) c) k fullShare Y ⊢ iprop(∃ f, ⌜(outRows k).view.read (Elt F) f = Y⌝ ∗ (outRows k).view.loc (up (sh kR) c : Thread nD τ) ↦[(outRows k).view.set]{fullShare} f) from BI.Entails.refl _) $$ Hdst
  icases Hdst with ⟨%fd, %hfd, Hdst⟩
  iapply (Rounds.wp_send_pointsTo_with 𝒱₀ ER (ringRd m) (c : Thread nD τ) none (κ₁ := Kn (c, kS)) (κ₂ := Kn (up (sh kR) c, kR))
    (c' := (up (sh kR) c : Thread nD τ)) (src := outRows k) (dst := outRows k) (q := q) (fs := fs) (fd := fd) (F := R)
    (r₁ := 0) (r₂ := 0) (d₁ := ()) (d₂ := ()) hd1 hd2 () () N rfl hm1 hm2 (OL l c) rfl (W := W)
    (by
      rw [hq1]
      have h : ((outRows k).view.loc (c : Thread nD τ) ↦[(outRows k).view.set]{q} fs : sProp 𝕄) ⊢ own c k q X := by
        unfold own owns
        iintro H
        iexists fs; isplitr
        · ipureintro; exact hfs
        · iexact H
      exact h.trans hp1)
    (by
      rw [hq2]
      have h : ((outRows k).view.loc (up (sh kR) c : Thread nD τ) ↦[(outRows k).view.set]{fullShare}
          ((outRows k).view.write (Elt F) fd ((outRows k).view.read (Elt F) fs) Finset.univ) : sProp 𝕄) ⊢ own (up (sh kR) c) k fullShare X := by
        unfold own owns
        iintro H
        iexists _; isplitr
        rotate_left
        · iexact H
        · ipureintro; rw [View.read_write_univ]; exact hfs
      exact (sep_mono_left h).trans hp2))
    $$ [Hown Hdst HRes HO Ht1 Ht2]
  · isplitr; · iexact HI1
    isplitr; · iexact HI2
    isplitl [Hown]; · iexact Hown
    isplitl [Hdst HRes]
    · isplitl [Hdst]; · iexact Hdst
      iexact HRes
    isplitl [HO]; · iexact HO
    isplitl [Ht1]; · iexact Ht1
    isplitr; · iexact HM1
    isplitl [Ht2]; · iexact Ht2
    iexact HM2
  iexact Hk

end Sync

end Cert.RingProof

end
-- ==== Proof.Trip.lean ====
/- One trip of the reduce-scatter loop at a symbolic device and trip number: the chunk's partial product is computed from
   the device's own blocks, the left neighbour's partial sum is added where there is one, and the sum is copied on to the
   right where there is a further trip. -/
module

public import proofs.«01_k».proof.Proof.Steps

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (Kn : Dev nD × K → ℕ)

/-! ## The printed offsets, devices, semaphores and conditions, by the ring's names -/

theorem hd_inb (k : Dev nD) (h : Fin 8) : ∀ a, (![256 * k.val, 128 * h.val] : Fin 2 → ℕ) a + S256x128.size a ≤ S2048x1024.size a := by
  revert k h; decide
/-- Head `h`'s columns in the rows of chunk `k`. -/
abbrev hdR (k : Dev nD) (h : Fin 8) : Rect S2048x1024 := Rect.unit (s := S2048x1024) ![256 * k.val, 128 * h.val] S256x128.size (hd_inb k h)

theorem off1_at : ∀ (c : Dev nD) (t : Fin k0_t1_loop.trips), k0_off1 c t = ![256 * (chunk c t).val, 0] := by decide +kernel
theorem off2_at : ∀ (c : Dev nD) (t : Fin k0_t1_loop.trips), k0_off2 c t = ![256 * (chunk c t).val, 128 * (0 : Fin 8).val] := by decide +kernel
theorem off3_at : ∀ (c : Dev nD) (t : Fin k0_t1_loop.trips), k0_off3 c t = ![256 * (chunk c t).val, 128 * (1 : Fin 8).val] := by decide +kernel
theorem off4_at : ∀ (c : Dev nD) (t : Fin k0_t1_loop.trips), k0_off4 c t = ![256 * (chunk c t).val, 128 * (2 : Fin 8).val] := by decide +kernel
theorem off5_at : ∀ (c : Dev nD) (t : Fin k0_t1_loop.trips), k0_off5 c t = ![256 * (chunk c t).val, 128 * (3 : Fin 8).val] := by decide +kernel
theorem off6_at : ∀ (c : Dev nD) (t : Fin k0_t1_loop.trips), k0_off6 c t = ![256 * (chunk c t).val, 128 * (4 : Fin 8).val] := by decide +kernel
theorem off7_at : ∀ (c : Dev nD) (t : Fin k0_t1_loop.trips), k0_off7 c t = ![256 * (chunk c t).val, 128 * (5 : Fin 8).val] := by decide +kernel
theorem off8_at : ∀ (c : Dev nD) (t : Fin k0_t1_loop.trips), k0_off8 c t = ![256 * (chunk c t).val, 128 * (6 : Fin 8).val] := by decide +kernel
theorem off9_at : ∀ (c : Dev nD) (t : Fin k0_t1_loop.trips), k0_off9 c t = ![256 * (chunk c t).val, 128 * (7 : Fin 8).val] := by decide +kernel
theorem off13_at : ∀ (c : Dev nD) (t : Fin k0_t1_loop.trips), k0_off13 c t = ![256 * (chunk c t).val, 0] := by decide +kernel
theorem off17_at : ∀ (c : Dev nD) (t : Fin k0_t1_loop.trips), k0_off17 c t = ![256 * (chunk c t).val, 0] := by decide +kernel
theorem dev2_at : ∀ (c : Dev nD) (h : k0_dev2 c < nD), (⟨k0_dev2 c, h⟩ : Dev nD) = nxt c := by decide +kernel
theorem cond1_iff : ∀ t : Fin k0_t1_loop.trips, Iff (k0_cond1 t = 1#1) (0 < t.val) := by decide +kernel
theorem cond2_iff : ∀ t : Fin k0_t1_loop.trips, Iff (k0_cond2 t = 1#1) (t.val < 7) := by decide +kernel
theorem off10_at : ∀ (t : Fin k0_t1_loop.trips) (h : 0 < t.val), k0_off10 t = ![(t.val - 1)] := by decide +kernel
theorem off12_at : ∀ (t : Fin k0_t1_loop.trips) (h : 0 < t.val), k0_off12 t = ![(t.val - 1), 0, 0] := by decide +kernel
theorem off14_at : ∀ (t : Fin k0_t1_loop.trips) (h : 0 < t.val), k0_off14 t = ![(t.val - 1), 0, 0] := by decide +kernel
theorem off15_at : ∀ (t : Fin k0_t1_loop.trips), k0_off15 t = ![t.val] := k0_off15_eq
theorem off16_at : ∀ (t : Fin k0_t1_loop.trips), k0_off16 t = ![t.val, 0, 0] := k0_off16_eq

theorem semS_at (s : Fin 7) {o : Fin 1 → ℕ} {hi : ∀ x, o x + S1.size x ≤ S7.size x} (ho : o = ![s.val]) :
    SemLoc.dma ((cc0_scratch3.slice (Rect.unit (s := S7) o S1.size hi)).squeeze S_ squeezes_S1_S_).sem = csem (kRsS s) := by
  subst ho; revert s; decide +kernel
theorem semR_at (s : Fin 7) {o : Fin 1 → ℕ} {hi : ∀ x, o x + S1.size x ≤ S7.size x} (ho : o = ![s.val]) :
    SemLoc.dma ((cc0_scratch4.slice (Rect.unit (s := S7) o S1.size hi)).squeeze S_ squeezes_S1_S_).sem = csem (kRsR s) := by
  subst ho; revert s; decide +kernel

theorem ret_step {α : Type} {Q : α → sProp 𝕄} (c : Dev nD) {a : α} : (Q a : sProp 𝕄) ⊢ wpc c (.ret a) Q := by
  unfold wpc; rw [wp_ret]
  iintro H; imodintro; iexact H

/-! ## The loop's invariant -/

/-- The `j`-th step of the reduce-scatter before trip `s`: to come, under way, or over. -/
def slotSt (c : Dev nD) (s : ℕ) (j : Fin 7) : sProp 𝕄 :=
  if s ≤ j.val then iprop(tok c (kRsS j) ∗ tok (nxt c) (kRsR j) ∗ slotAny (F := F) (nxt c) j ∗ pos0 c (kRsS j) ∗ pos0 c (kRsR j) ∗ crd c (kRsR j))
  else if s = j.val + 1 then iprop(pos0 c (kRsS j) ∗ pos0 c (kRsR j) ∗ crd c (kRsS j) ∗ crd c (kRsR j))
  else iprop(pos1 c (kRsS j) ∗ pos1 c (kRsR j) ∗ slotAny (F := F) c j)

/-- The chunk of trip `j` of the device's own result buffer: there until its trip. -/
def rowSt (c : Dev nD) (s : ℕ) (j : Fin 8) : sProp 𝕄 :=
  if s ≤ j.val then ownAny (F := F) c (up (8 - j.val) c) else iprop(emp)

/-- The device's argument blocks, as staged. -/
def ins (c : Dev nD) : sProp 𝕄 :=
  iprop(owns (c : Thread nD τ) xM fullShare (inX m c) ∗ owns (c : Thread nD τ) wqM fullShare (inWq m c)
    ∗ owns (c : Thread nD τ) keM fullShare (inK m c) ∗ owns (c : Thread nD τ) veM fullShare (inV m c) ∗ owns (c : Thread nD τ) woM fullShare (inWo m c))

def scr (c : Dev nD) : sProp 𝕄 :=
  iprop((∃ Q : Vec F S2048x1024 .bf16, owns (c : Thread nD τ) qM fullShare Q) ∗ ∃ Q : Vec F S2048x1024 .bf16, owns (c : Thread nD τ) ctM fullShare Q)

def inv (c : Dev nD) (s : ℕ) : sProp 𝕄 :=
  iprop(recs m Kn ∗ ins m c ∗ scr (F := F) c ∗ (∃ W, owes (c : Thread nD τ) (OL (payList.drop (1 + min s 7)) c) W)
    ∗ (bigSep Finset.univ fun j => slotSt c s j) ∗ (bigSep Finset.univ fun j => rowSt (F := F) c s j)
    ∗ (if s = 8 then iprop(own c (nxt c) fullShare (acc m 7 c) ∗ trailL (F := F) 7 (prv c) (nxt c)) else iprop(emp)))

/-! ## A chunk's partial product -/

/-- The first `n` heads' columns of the chunk's context are in place. -/
def ctDone (c : Dev nD) (t : Fin k0_t1_loop.trips) (n : ℕ) (C : Vec F S2048x1024 .bf16) : Prop :=
  ∀ h : Fin 8, h.val < n → ∀ j, C ((hdR (chunk c t) h).emb j) = headOf m c t h j

/-- The device's buffers when `n` heads are done: the chunk's queries in place, and the context of `n` heads. -/
def heads (c : Dev nD) (t : Fin k0_t1_loop.trips) (n : ℕ) : sProp 𝕄 :=
  iprop(ins m c ∗ (∃ Q : Vec F S2048x1024 .bf16, ⌜∀ j, Q ((rowR (chunk c t)).emb j) = qOf m c t j⌝ ∗ owns (c : Thread nD τ) qM fullShare Q)
    ∗ ∃ C : Vec F S2048x1024 .bf16, ⌜ctDone m c t n C⌝ ∗ owns (c : Thread nD τ) ctM fullShare C)

theorem row_hd (k : Dev nD) (h : Fin 8) (j : S256x128.Idx) : (hdR k h).emb j = (rowR k).emb ((blkR h).emb j) := by
  funext a
  refine Fin.ext ?_
  rw [Rect.emb_apply, Rect.emb_apply, Rect.emb_apply]
  match a with
  | ⟨0, _⟩ => simp
  | ⟨1, _⟩ => simp

theorem hd_row (k : Dev nD) (j : S256x1024.Idx) : (rowR k).emb j = (hdR k (hdOf j)).emb (hdIx j) := by
  rw [row_hd]
  congr 1
  funext a
  refine Fin.ext ?_
  rw [Rect.emb_apply]
  match a with
  | ⟨0, _⟩ => simp
  | ⟨1, _⟩ => simp; omega

theorem hd_not_mem (k : Dev nD) {h h' : Fin 8} (hne : h' ≠ h) (j : S256x128.Idx) : (hdR k h').emb j ∉ (hdR k h).set := by
  have hd : Disjoint (hdR k h').set (hdR k h).set := by
    refine Rect.unit_disjoint (a := (1 : Fin 2)) ?_
    have : h'.val ≠ h.val := fun e => hne (Fin.ext e)
    show 128 * h'.val + 128 ≤ 128 * h.val ∨ 128 * h.val + 128 ≤ 128 * h'.val
    omega
  exact Finset.disjoint_left.mp hd ((hdR k h').mem_set.mpr fun a => ⟨(j a).val, (j a).isLt, Rect.emb_apply _ _ _⟩)

theorem full_emb {n n' : ℕ} (hi : ∀ a, (![0, 0] : Fin 2 → ℕ) a + (⟨2, ![n, n']⟩ : Shape).size a ≤ (⟨2, ![n, n']⟩ : Shape).size a) (j : (⟨2, ![n, n']⟩ : Shape).Idx) :
    (Rect.unit (s := (⟨2, ![n, n']⟩ : Shape)) ![0, 0] (⟨2, ![n, n']⟩ : Shape).size hi).emb j = j := by
  funext a
  refine Fin.ext ?_
  rw [Rect.emb_apply]
  match a with
  | ⟨0, _⟩ => simp
  | ⟨1, _⟩ => simp

/-- The chunk's queries: the block's rows against the projection, kept in the query buffer. -/
theorem queries {α : Type} {Q : α → sProp 𝕄} (c : Dev nD) (t : Fin k0_t1_loop.trips) {o : Fin 2 → ℕ} (ho : o = ![256 * (chunk c t).val, 0])
    {o1 : Fin 2 → ℕ} (ho1 : o1 = ![0, 0]) {hi hj hn hm hn' hi' hj' hk hl} {kk : PUnit → Prog (TpuEff nD τ sig (Elt F) Λ₀ .tc) α} :
    iprop(ins m c ∗ scr (F := F) c) ⊢ iprop((heads m c t 0 -∗ wpc c (kk ⟨⟩) Q)
      -∗ wpc c (.op (.load xM (Rect.unit (s := S2048x1024) o S256x1024.size hi).toLoadRect hi') fun x =>
          .op (.load wqM (Rect.unit (s := S1024x1024) o1 S1024x1024.size hj).toLoadRect hj') fun w =>
          .op (.load qM (Rect.unit (s := S2048x1024) o S256x1024.size hn).toLoadRect hn') fun _ =>
          .op (.store qM (Rect.unit (s := S2048x1024) o S256x1024.size hm) (k0_pay1 x w) Finset.univ hk hl) kk) Q) := by
  unfold ins scr
  iintro ⟨⟨Hx, Hw, He, Hv, Ho⟩, ⟨%Y, Hq⟩, ⟨%C, Hc⟩⟩ Hk
  iapply (ld_sub (hi' := rowR_inb (chunk c t)) c ho) $$ Hx; iintro Hx
  iapply (ld_sub (hi' := inb_S1024x1024_S1024x1024_0_0) c ho1) $$ Hw; iintro Hw
  iapply (ld_sub (hi' := rowR_inb (chunk c t)) c ho) $$ Hq; iintro Hq
  iapply (st_sub (hi' := rowR_inb (chunk c t)) c ho) $$ Hq
  iintro %Y' %hY Hq
  iapply Hk
  unfold heads ins
  isplitl [Hx Hw He Hv Ho]
  · isplitl [Hx]; · iexact Hx
    isplitl [Hw]; · iexact Hw
    isplitl [He]; · iexact He
    isplitl [Hv]; · iexact Hv
    iexact Ho
  isplitl [Hq]
  · iexists Y'; isplitr
    · ipureintro
      intro j
      refine (hY.1 j).trans ?_
      have e : (fun j : S1024x1024.Idx => inWq m c ((Rect.unit (s := S1024x1024) ![0, 0] S1024x1024.size inb_S1024x1024_S1024x1024_0_0).emb j)) = inWq m c := by
        funext j; exact congrArg (inWq m c) (full_emb _ j)
      exact congrFun (congrArg (k0_pay1 (fun j => inX m c ((rowR (chunk c t)).emb j))) e) j
    · iexact Hq
  · iexists C; isplitr
    · ipureintro; exact fun h hh => absurd hh (Nat.not_lt_zero _)
    · iexact Hc

/-- One head: its queries, keys and values are read, and its context is kept in the context buffer. -/
theorem head {α : Type} {Q : α → sProp 𝕄} (c : Dev nD) (t : Fin k0_t1_loop.trips) (h : Fin 8) (n : ℕ) (hnh : n = h.val) {o : Fin 2 → ℕ} (ho : o = ![256 * (chunk c t).val, 128 * h.val])
    {o1 : Fin 2 → ℕ} (ho1 : o1 = ![0, 128 * h.val]) {P : Vec F S256x128 .bf16 → Vec F S2048x128 .bf16 → Vec F S2048x128 .bf16 → Vec F S256x128 .bf16} (hP : P = k0_pay8 (biasOf c t))
    {hi hj hn hm hp hn' hi' hj' hp' hk hl} {kk : PUnit → Prog (TpuEff nD τ sig (Elt F) Λ₀ .tc) α} :
    heads m c t n ⊢ iprop((heads m c t (n + 1) -∗ wpc c (kk ⟨⟩) Q)
      -∗ wpc c (.op (.load qM (Rect.unit (s := S2048x1024) o S256x128.size hi).toLoadRect hi') fun q =>
          .op (.load keM (Rect.unit (s := S2048x1024) o1 S2048x128.size hj).toLoadRect hj') fun ke =>
          .op (.load veM (Rect.unit (s := S2048x1024) o1 S2048x128.size hp).toLoadRect hp') fun ve =>
          .op (.load ctM (Rect.unit (s := S2048x1024) o S256x128.size hn).toLoadRect hn') fun _ =>
          .op (.store ctM (Rect.unit (s := S2048x1024) o S256x128.size hm) (P q ke ve) Finset.univ hk hl) kk) Q) := by
  subst hP
  subst hnh
  unfold heads ins
  iintro ⟨⟨Hx, Hw, He, Hv, Ho⟩, ⟨%Y, %hY, Hq⟩, ⟨%C, %hC, Hc⟩⟩ Hk
  iapply (ld_sub (hi' := hd_inb (chunk c t) h) c ho) $$ Hq; iintro Hq
  iapply (ld_sub (hi' := colR_inb h) c ho1) $$ He; iintro He
  iapply (ld_sub (hi' := colR_inb h) c ho1) $$ Hv; iintro Hv
  iapply (ld_sub (hi' := hd_inb (chunk c t) h) c ho) $$ Hc; iintro Hc
  iapply (st_sub (hi' := hd_inb (chunk c t) h) c ho) $$ Hc
  iintro %C' %hC' Hc
  iapply Hk
  isplitl [Hx Hw He Hv Ho]
  · isplitl [Hx]; · iexact Hx
    isplitl [Hw]; · iexact Hw
    isplitl [He]; · iexact He
    isplitl [Hv]; · iexact Hv
    iexact Ho
  isplitl [Hq]
  · iexists Y; isplitr
    · ipureintro; exact hY
    · iexact Hq
  · iexists C'; isplitr
    rotate_left
    · iexact Hc
    ipureintro
    intro h' hlt j
    by_cases e : h' = h
    · subst e
      refine (hC'.1 j).trans ?_
      have e : (fun j : S256x128.Idx => Y ((hdR (chunk c t) h').emb j)) = fun j => qOf m c t ((blkR h').emb j) := by
        funext j; rw [← hY]; exact congrArg Y (row_hd _ _ _)
      exact congrFun (congrArg (fun q => k0_pay8 (biasOf c t) q (fun j => inK m c ((colR h').emb j)) (fun j => inV m c ((colR h').emb j))) e) j
    · rw [hC'.2 _ (hd_not_mem _ e j)]
      exact hC h' (by have : h'.val ≠ h.val := fun e' => e (Fin.ext e'); omega) j

/-- All heads' context against the output projection: the device's contribution to the chunk. -/
theorem project {α : Type} {Q : α → sProp 𝕄} (c : Dev nD) (t : Fin k0_t1_loop.trips) {o : Fin 2 → ℕ} (ho : o = ![256 * (chunk c t).val, 0])
    {o1 : Fin 2 → ℕ} (ho1 : o1 = ![0, 0]) {hi hj hn hm hn' hi' hj' hk hl} {kk : PUnit → Prog (TpuEff nD τ sig (Elt F) Λ₀ .tc) α} :
    iprop(heads m c t 8 ∗ ownAny (F := F) c (chunk c t)) ⊢ iprop((ins m c ∗ scr (F := F) c ∗ own c (chunk c t) fullShare (part m c t) -∗ wpc c (kk ⟨⟩) Q)
      -∗ wpc c (.op (.load ctM (Rect.unit (s := S2048x1024) o S256x1024.size hi).toLoadRect hi') fun x =>
          .op (.load woM (Rect.unit (s := S1024x1024) o1 S1024x1024.size hj).toLoadRect hj') fun w =>
          .op (.load outM (Rect.unit (s := S2048x1024) o S256x1024.size hn).toLoadRect hn') fun _ =>
          .op (.store outM (Rect.unit (s := S2048x1024) o S256x1024.size hm) (k0_pay15 x w) Finset.univ hk hl) kk) Q) := by
  unfold heads ins scr
  iintro ⟨⟨⟨Hx, Hw, He, Hv, Ho⟩, ⟨%Y, %hY, Hq⟩, ⟨%C, %hC, Hc⟩⟩, ⟨%X, Hr⟩⟩ Hk
  iapply (ld_sub (hi' := rowR_inb (chunk c t)) c ho) $$ Hc; iintro Hc
  iapply (ld_sub (hi' := inb_S1024x1024_S1024x1024_0_0) c ho1) $$ Ho; iintro Ho
  iapply (ld_part (hi' := rowR_inb (chunk c t)) c ho) $$ Hr; iintro Hr
  iapply (st_part (hi' := rowR_inb (chunk c t)) c ho) $$ Hr; iintro Hr
  iapply Hk
  isplitl [Hx Hw He Hv Ho]
  · isplitl [Hx]; · iexact Hx
    isplitl [Hw]; · iexact Hw
    isplitl [He]; · iexact He
    isplitl [Hv]; · iexact Hv
    iexact Ho
  isplitl [Hq Hc]
  · isplitl [Hq]
    · iexists Y; iexact Hq
    · iexists C; iexact Hc
  · have e1 : (fun j : S256x1024.Idx => C ((Rect.unit (s := S2048x1024) ![256 * (chunk c t).val, 0] S256x1024.size (rowR_inb (chunk c t))).emb j)) = ctxOf m c t := by
      funext j
      unfold ctxOf
      rw [← hC (hdOf j) (hdOf j).isLt (hdIx j)]
      exact congrArg C (hd_row _ _)
    have e2 : (fun j : S1024x1024.Idx => inWo m c ((Rect.unit (s := S1024x1024) ![0, 0] S1024x1024.size inb_S1024x1024_S1024x1024_0_0).emb j)) = inWo m c := by
      funext j; exact congrArg (inWo m c) (full_emb _ j)
    have e3 := Entails.of_eq (congrArg (fun Z => (own c (chunk c t) fullShare Z : sProp 𝕄)) ((congr (congrArg k0_pay15 e1) e2).trans (show _ = part m c t from rfl)))
    iapply e3 $$ Hr

/-! ## The families of steps and rows, one trip on -/

/-- A landed slot, as the load of the slot's own shape finds it. -/
theorem slot_unsq (c : Dev nD) (s : Fin 7) (X : Blk F) : (slot c s X : sProp 𝕄) ⊢ owns (c : Thread nD τ) (slotU s) fullShare (unsq X) := by
  unfold slot owns
  iintro ⟨%f, %hf, H⟩
  iexists f
  isplitr
  · ipureintro
    rw [← hf]
    funext i
    show _ = (slotU s).view.read (Elt F) f (Shape.reshapeEquiv squeezes_S1x256x1024_S256x1024.numel_eq (_))
    rw [Equiv.apply_symm_apply]
  · rw [show (slotM s).view.set = (slotU s).view.set from View.set_reshape _ _]
    iexact H
theorem slot_resq (c : Dev nD) (s : Fin 7) (X : Vec F S1x256x1024 .bf16) : (owns (c : Thread nD τ) (slotU s) fullShare X : sProp 𝕄) ⊢ slotAny (F := F) c s := by
  unfold slotAny slot owns
  iintro ⟨%f, %hf, H⟩
  iexists (slotM s).view.read (Elt F) f
  iexists f
  isplitr
  · ipureintro; rfl
  · rw [show (slotM s).view.set = (slotU s).view.set from View.set_reshape _ _]
    iexact H

/-- The steps between a trip's receive and its send. -/
def midSt (c : Dev nD) (s : ℕ) (j : Fin 7) : sProp 𝕄 := if j.val + 1 = s then slotSt c (s + 1) j else slotSt c s j

theorem steps_first (c : Dev nD) : (bigSep Finset.univ fun j => slotSt (F := F) c 0 j) ⊢ (bigSep Finset.univ fun j => midSt (F := F) c 0 j : sProp 𝕄) :=
  bigSep_mono fun j _ => by unfold midSt; rw [if_neg (by omega)]; exact BI.Entails.refl _
theorem steps_last (c : Dev nD) : (bigSep Finset.univ fun j => midSt (F := F) c 7 j) ⊢ (bigSep Finset.univ fun j => slotSt (F := F) c 8 j : sProp 𝕄) :=
  bigSep_mono fun j _ => by
    unfold midSt
    by_cases h : j.val + 1 = 7
    · rw [if_pos h]; exact BI.Entails.refl _
    · rw [if_neg h]; unfold slotSt
      rw [if_neg (by omega), if_neg (by omega), if_neg (by omega), if_neg (by omega)]; exact BI.Entails.refl _

theorem steps_in (c : Dev nD) (s : ℕ) (j : Fin 7) (hj : s = j.val + 1) : (bigSep Finset.univ fun j => slotSt (F := F) c s j)
    ⊢ (iprop((pos0 c (kRsS j) ∗ pos0 c (kRsR j) ∗ crd c (kRsS j) ∗ crd c (kRsR j))
      ∗ ((pos1 c (kRsS j) ∗ pos1 c (kRsR j) ∗ slotAny (F := F) c j) -∗ bigSep Finset.univ fun j => midSt (F := F) c s j)) : sProp 𝕄) := by
  have h1 : slotSt (F := F) c s j = iprop(pos0 c (kRsS j) ∗ pos0 c (kRsR j) ∗ crd c (kRsS j) ∗ crd c (kRsR j)) := by
    unfold slotSt; rw [if_neg (by omega), if_pos hj]
  have h2 : midSt (F := F) c s j = iprop(pos1 c (kRsS j) ∗ pos1 c (kRsR j) ∗ slotAny (F := F) c j) := by
    unfold midSt slotSt; rw [if_pos hj.symm, if_neg (by omega), if_neg (by omega)]
  rw [← h1, ← h2]
  refine bigSep_univ_update j fun i hi => ?_
  have : i.val ≠ j.val := fun e => hi (Fin.ext e)
  unfold midSt; rw [if_neg (by omega)]

theorem steps_out (c : Dev nD) (s : ℕ) (j : Fin 7) (hj : s = j.val) : (bigSep Finset.univ fun j => midSt (F := F) c s j)
    ⊢ (iprop((tok c (kRsS j) ∗ tok (nxt c) (kRsR j) ∗ slotAny (F := F) (nxt c) j ∗ pos0 c (kRsS j) ∗ pos0 c (kRsR j) ∗ crd c (kRsR j))
      ∗ ((pos0 c (kRsS j) ∗ pos0 c (kRsR j) ∗ crd c (kRsS j) ∗ crd c (kRsR j)) -∗ bigSep Finset.univ fun j => slotSt (F := F) c (s + 1) j)) : sProp 𝕄) := by
  have h1 : midSt (F := F) c s j = iprop(tok c (kRsS j) ∗ tok (nxt c) (kRsR j) ∗ slotAny (F := F) (nxt c) j ∗ pos0 c (kRsS j) ∗ pos0 c (kRsR j) ∗ crd c (kRsR j)) := by
    unfold midSt slotSt; rw [if_neg (by omega), if_pos (by omega)]
  have h2 : slotSt (F := F) c (s + 1) j = iprop(pos0 c (kRsS j) ∗ pos0 c (kRsR j) ∗ crd c (kRsS j) ∗ crd c (kRsR j)) := by
    unfold slotSt; rw [if_neg (by omega), if_pos (by omega)]
  rw [← h1, ← h2]
  refine bigSep_univ_update j fun i hi => ?_
  have : i.val ≠ j.val := fun e => hi (Fin.ext e)
  unfold midSt
  by_cases h : i.val + 1 = s
  · rw [if_pos h]
  · rw [if_neg h]; unfold slotSt
    by_cases h' : s ≤ i.val
    · rw [if_pos h', if_pos (by omega)]
    · rw [if_neg h', if_neg (by omega), if_neg (by omega), if_neg (by omega)]

theorem rows_step (c : Dev nD) (s : ℕ) (hs : s < 8) : (bigSep Finset.univ fun j => rowSt (F := F) c s j)
    ⊢ (iprop(ownAny (F := F) c (up (8 - s) c) ∗ bigSep Finset.univ fun j => rowSt (F := F) c (s + 1) j) : sProp 𝕄) := by
  have h1 : rowSt (F := F) c s ⟨s, hs⟩ = ownAny (F := F) c (up (8 - s) c) := by unfold rowSt; rw [if_pos (Nat.le_refl _)]
  have h2 : rowSt (F := F) c (s + 1) ⟨s, hs⟩ = iprop(emp) := by unfold rowSt; rw [if_neg (by simp)]
  have h := bigSep_univ_update (Φ := fun j => rowSt (F := F) c s j) (Ψ := fun j => rowSt (F := F) c (s + 1) j) ⟨s, hs⟩ (fun i hi => by
    have : i.val ≠ s := fun e => hi (Fin.ext e)
    unfold rowSt
    by_cases h : s ≤ i.val
    · rw [if_pos h, if_pos (by omega)]
    · rw [if_neg h, if_neg (by omega)])
  rw [h1, h2] at h
  iintro H
  ihave H := h $$ H
  icases H with ⟨H1, H2⟩
  isplitl [H1]; · iexact H1
  iapply H2
  iempintro

theorem lev_send (j : Fin 7) (n : ℕ) : ∀ k' ∈ payList.drop n, levK (kRsS j) < levK k' := fun k' hk' =>
  (show ∀ j : Fin 7, ∀ k' ∈ payList, levK (kRsS j) < levK k' by decide) j k' (List.mem_of_mem_drop hk')
theorem lev_recv : ∀ j : Fin 7, ∀ k' ∈ payList.drop (1 + min (j.val + 1) 7), levK (kRsR j) < levK k' := by decide
theorem drop_step : ∀ j : Fin 7, payList.drop (1 + min j.val 7) = kRsR j :: payList.drop (1 + min (j.val + 1) 7) := by decide

set_option maxHeartbeats 1600000 in
theorem trip (c : Dev nD) (t : Fin k0_t1_loop.trips) (v4 : BitVec 32) :
    inv m Kn c t.val ⊢ wpc c (k0_t1_body xM (Memref.isWhole_whole _) wqM (Memref.isWhole_whole _) keM (Memref.isWhole_whole _) veM (Memref.isWhole_whole _)
      woM (Memref.isWhole_whole _) outM (Memref.isWhole_whole _) qM (Memref.isWhole_whole _) ctM (Memref.isWhole_whole _) rsM (Memref.isWhole_whole _)
      cc0_scratch3 cc0_scratch4 cc0_scratch5 cc0_scratch6 cc0_scratch7 cc0_scratch8 c (word2 c) v4 t ⟨⟩) (fun _ => inv m Kn c (t.val + 1)) := by
  unfold k0_t1_body
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [Prog.lift, Prog.bind_op, Prog.bind_ret, Prog.pure_eq_ret]
  have ht : t.val < 8 := t.isLt.trans_eq trips_eq
  have htr : tr t.val = t := tr_val t
  unfold inv
  iintro ⟨#HR, Hi, Hs, ⟨%W, HO⟩, HS, HW, -⟩
  ihave HW := (rows_step c t.val ht) $$ HW
  icases HW with ⟨Hr, HW⟩
  iapply (queries m c t (off1_at c t) rfl) $$ [Hi Hs]
  · isplitl [Hi]; · iexact Hi
    iexact Hs
  iintro H
  iapply (head m c t 0 0 rfl (off2_at c t) (by rfl) (by rfl)) $$ H; iintro H
  iapply (head m c t 1 1 rfl (off3_at c t) (by rfl) (by rfl)) $$ H; iintro H
  iapply (head m c t 2 2 rfl (off4_at c t) (by rfl) (by rfl)) $$ H; iintro H
  iapply (head m c t 3 3 rfl (off5_at c t) (by rfl) (by rfl)) $$ H; iintro H
  iapply (head m c t 4 4 rfl (off6_at c t) (by rfl) (by rfl)) $$ H; iintro H
  iapply (head m c t 5 5 rfl (off7_at c t) (by rfl) (by rfl)) $$ H; iintro H
  iapply (head m c t 6 6 rfl (off8_at c t) (by rfl) (by rfl)) $$ H; iintro H
  iapply (head m c t 7 7 rfl (off9_at c t) (by rfl) (by rfl)) $$ H; iintro H
  iapply (project m c t (off1_at c t) rfl) $$ [H Hr]
  · isplitl [H]; · iexact H
    iexact Hr
  iintro ⟨Hi, Hs, Hp⟩
  by_cases h0 : t.val = 0
  · have hc1 : ¬ k0_cond1 t = 1#1 := fun h => by have := (cond1_iff t).mp h; omega
    have hc2 : k0_cond2 t = 1#1 := (cond2_iff t).mpr (by omega)
    simp only [dif_neg hc1, dif_pos hc2, Prog.bind_op, Prog.bind_ret]
    ihave HM : (bigSep Finset.univ fun j => midSt (F := F) c t.val j) $$ [HS]
    · rw [h0]; iapply (steps_first c) $$ HS
    have hacc : part m c t = acc m t.val c := by rw [h0]; show part m c t = part m c (tr 0); rw [← h0, htr]
    rw [hacc]
    ihave Htr : trailL (F := F) t.val (prv c) (chunk c t) $$ []
    · rw [h0]; unfold trailL; iempintro
    obtain ⟨i, hti⟩ : ∃ i : Fin 7, t.val = i.val := ⟨⟨t.val, by omega⟩, rfl⟩
    ihave HM := (steps_out c t.val i hti) $$ HM
    icases HM with ⟨⟨Ht1, Ht2, Hsl, Hp1, Hp2, Hcr⟩, HM⟩
    rw [show payList.drop (1 + min t.val 7) = kRsR i :: payList.drop (1 + min (t.val + 1) 7) from by rw [hti]; exact drop_step i]
    iapply (send_rs m Kn c i (dev2_at c _) (chunk c t) (off17_at c t) ((off16_at t).trans (by rw [hti])) (semS_at i ((off15_at t).trans (by rw [hti])))
      (semR_at i ((off15_at t).trans (by rw [hti]))) (by rw [← hti]) (payList.drop (1 + min (t.val + 1) 7))) $$ [Hp Hsl Htr Ht1 Ht2 HO]
    · isplitr; · iexact HR
      isplitl [Hp]; · rw [← hti]; iexact Hp
      isplitl [Hsl]; · iexact Hsl
      isplitl [Htr]; · rw [← hti]; iexact Htr
      isplitl [HO]; · iexact HO
      isplitl [Ht1]; · iexact Ht1
      iexact Ht2
    iintro ⟨Hcs, HO⟩
    iapply (ret_step c)
    isplitr; · iexact HR
    isplitl [Hi]; · iexact Hi
    isplitl [Hs]; · iexact Hs
    isplitl [HO]; · iexists _; iexact HO
    isplitl [HM Hp1 Hp2 Hcs Hcr]
    · iapply HM
      isplitl [Hp1]; · iexact Hp1
      isplitl [Hp2]; · iexact Hp2
      isplitl [Hcs]; · iexact Hcs
      iexact Hcr
    isplitl [HW]; · iexact HW
    rw [if_neg (by omega)]
    iempintro
  · have hc1 : k0_cond1 t = 1#1 := (cond1_iff t).mpr (by omega)
    simp only [dif_pos hc1, Prog.bind_op, Prog.bind_ret]
    obtain ⟨j, htj⟩ : ∃ j : Fin 7, t.val = j.val + 1 := ⟨⟨t.val - 1, by omega⟩, by simp; omega⟩
    ihave HS := (steps_in c t.val j htj) $$ HS
    icases HS with ⟨⟨Hp1, Hp2, Hc1, Hc2⟩, HM⟩
    have e10 : k0_off10 t = ![j.val] := (off10_at t (by omega)).trans (by rw [htj]; rfl)
    have e12 : k0_off12 t = ![j.val, 0, 0] := (off12_at t (by omega)).trans (by rw [htj]; rfl)
    have e14 : k0_off14 t = ![j.val, 0, 0] := (off14_at t (by omega)).trans (by rw [htj]; rfl)
    iapply (wait_dma m Kn c (kRsS j) rfl (semS_at j e10) (by rfl) (payList.drop (1 + min t.val 7)) (lev_send j _)) $$ [Hp1 Hc1 HO]
    · isplitr; · iexact HR
      isplitl [Hc1]; · iexact Hc1
      isplitl [HO]; · iexact HO
      iexact Hp1
    iintro ⟨⟨%W1, HO⟩, Hp1, -⟩
    iapply (wait_dma m Kn c (kRsR j) rfl (semR_at j e10) (by rfl) (payList.drop (1 + min t.val 7)) (by rw [htj]; exact lev_recv j)) $$ [Hp2 Hc2 HO]
    · isplitr; · iexact HR
      isplitl [Hc2]; · iexact Hc2
      isplitl [HO]; · iexact HO
      iexact Hp2
    iintro ⟨⟨%W2, HO⟩, Hp2, Hpay⟩
    ihave Hpay := (Entails.of_eq (pay_rsR m c j)) $$ Hpay
    icases Hpay with ⟨Hsl, Htr⟩
    ihave Hsl := (slot_unsq c j _) $$ Hsl
    iapply (ld_part (hi' := rowR_inb (chunk c t)) c (off13_at c t)) $$ Hp; iintro Hp
    iapply (ld_part (hi' := slotR_inb j) c e14) $$ Hsl; iintro Hsl
    iapply (ld_part (hi' := rowR_inb (chunk c t)) c (off13_at c t)) $$ Hp; iintro Hp
    iapply (st_part (hi' := rowR_inb (chunk c t)) c (off13_at c t)) $$ Hp; iintro Hp
    ihave Hsl := (slot_resq c j _) $$ Hsl
    ihave HM := HM $$ [Hp1 Hp2 Hsl]
    · isplitl [Hp1]; · iexact Hp1
      isplitl [Hp2]; · iexact Hp2
      iexact Hsl
    have hacc : k0_pay16 (part m c t) (unsq (acc m j.val (prv c))) = acc m t.val c := by
      rw [htj]; show _ = k0_pay16 (part m c (tr (j.val + 1))) (unsq (acc m j.val (prv c))); rw [← htj, htr]
    ihave Hp := (show _ ⊢ (own c (chunk c t) fullShare (acc m t.val c) : sProp 𝕄) from Entails.of_eq (congrArg (fun Z => (own c (chunk c t) fullShare Z : sProp 𝕄)) hacc)) $$ Hp
    ihave Htr := (show _ ⊢ (trailL (F := F) t.val (prv c) (chunk c t) : sProp 𝕄) from Entails.of_eq (by rw [htj, show 7 - j.val = 8 - t.val from by omega])) $$ Htr
    by_cases h7 : t.val = 7
    · have hc2 : ¬ k0_cond2 t = 1#1 := fun h => by have := (cond2_iff t).mp h; omega
      simp only [dif_neg hc2, Prog.bind_ret]
      iapply (ret_step c)
      rw [h7]
      isplitr; · iexact HR
      isplitl [Hi]; · iexact Hi
      isplitl [Hs]; · iexact Hs
      isplitl [HO]; · iexists _; iexact HO
      isplitl [HM]; · iapply (steps_last c) $$ HM
      isplitl [HW]; · iexact HW
      rw [if_pos rfl]
      have hch : chunk c t = nxt c := by rw [show chunk c t = up (8 - t.val) c from rfl, h7]
      rw [hch]
      isplitl [Hp]; · iexact Hp
      iexact Htr
    have hc2 : k0_cond2 t = 1#1 := (cond2_iff t).mpr (by omega)
    simp only [dif_pos hc2, Prog.bind_op, Prog.bind_ret]
    obtain ⟨i, hti⟩ : ∃ i : Fin 7, t.val = i.val := ⟨⟨t.val, by omega⟩, rfl⟩
    ihave HM := (steps_out c t.val i hti) $$ HM
    icases HM with ⟨⟨Ht1, Ht2, Hsl, Hp1, Hp2, Hcr⟩, HM⟩
    rw [show payList.drop (1 + min t.val 7) = kRsR i :: payList.drop (1 + min (t.val + 1) 7) from by rw [hti]; exact drop_step i]
    iapply (send_rs m Kn c i (dev2_at c _) (chunk c t) (off17_at c t) ((off16_at t).trans (by rw [hti])) (semS_at i ((off15_at t).trans (by rw [hti])))
      (semR_at i ((off15_at t).trans (by rw [hti]))) (by rw [← hti]) (payList.drop (1 + min (t.val + 1) 7))) $$ [Hp Hsl Htr Ht1 Ht2 HO]
    · isplitr; · iexact HR
      isplitl [Hp]; · rw [← hti]; iexact Hp
      isplitl [Hsl]; · iexact Hsl
      isplitl [Htr]; · rw [← hti]; iexact Htr
      isplitl [HO]; · iexact HO
      isplitl [Ht1]; · iexact Ht1
      iexact Ht2
    iintro ⟨Hcs, HO⟩
    iapply (ret_step c)
    isplitr; · iexact HR
    isplitl [Hi]; · iexact Hi
    isplitl [Hs]; · iexact Hs
    isplitl [HO]; · iexists _; iexact HO
    isplitl [HM Hp1 Hp2 Hcs Hcr]
    · iapply HM
      isplitl [Hp1]; · iexact Hp1
      isplitl [Hp2]; · iexact Hp2
      isplitl [Hcs]; · iexact Hcs
      iexact Hcr
    isplitl [HW]; · iexact HW
    rw [if_neg (by omega)]
    iempintro

end Cert.RingProof

end
-- ==== Proof.Gather.lean ====
/- A device's whole run: the entry handshake, the reduce-scatter loop, the two all-gather streams with the copy across the
   ring, and the cells closed at the end. -/
module

public import proofs.«01_k».proof.Proof.Trip

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (Kn : Dev nD × K → ℕ)

/-- Every element type has a value. -/
instance elt_nonempty : ∀ e : EltTy, Nonempty (Elt F e) := fun e => by
  cases e
  all_goals first
    | exact ⟨(0 : BitVec _)⟩
    | exact ⟨(FloatOps.ofBits .bf16 0 : F .bf16)⟩
    | exact ⟨(FloatOps.ofBits .f32 0 : F .f32)⟩
    | exact ⟨(FloatOps.ofBits .f16 0 : F .f16)⟩
    | exact ⟨(FloatOps.ofBits .fp8e4m3 0 : F .fp8e4m3)⟩
    | exact ⟨(FloatOps.ofBits .fp8e5m2 0 : F .fp8e5m2)⟩

/-! ## The families over a device's cells -/

/-- Which cells' payments come from another device. -/
def isR : K → Bool
  | .inl _ => true
  | .inr (.inl (.inl _)) => false
  | .inr (.inl (.inr _)) => true
  | .inr (.inr (.inl (.inl _))) => false
  | .inr (.inr (.inl (.inr _))) => true
  | .inr (.inr (.inr (.inl _))) => false
  | .inr (.inr (.inr (.inr t))) => decide (t ≠ 3)

/-- The device whose cell `k` device `c` pays. -/
def payee (c : Dev nD) (k : K) : Dev nD := if sh k = 0 then c else up (sh k) c
theorem payee_eq (c : Dev nD) (k : K) : payee c k = up (sh k) c := by
  unfold payee; split
  · rename_i h; rw [h, up_zero]
  · rfl

/-- The right to pay, for every used cell. -/
def tokOf (c : Dev nD) (k : K) : sProp 𝕄 := if used k = true then tok (payee c k) k else iprop(emp)
/-- The credit for what others pay. -/
def crdOf (c : Dev nD) (k : K) : sProp 𝕄 := if isR k = true then crd c k else iprop(emp)
/-- A cell's position at the end. -/
def posEnd (c : Dev nD) (k : K) : sProp 𝕄 := if used k = true then pos1 c k else pos0 c k

omit [FloatOps F] [Named F] in
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide)]
  simp only [bigSepL_cons_cons, bigSepL_singleton]
  rfl

omit [FloatOps F] [Named F] in
theorem splitK (Φ : K → sProp 𝕄) : bigSep Finset.univ Φ = iprop(Φ kBar
    ∗ ((bigSep Finset.univ fun j => Φ (kRsS j)) ∗ (bigSep Finset.univ fun j => Φ (kRsR j)))
    ∗ ((Φ (kArS 0) ∗ Φ (kArS 1) ∗ Φ (kArS 2) ∗ Φ (kArS 3)) ∗ (Φ (kArR 0) ∗ Φ (kArR 1) ∗ Φ (kArR 2) ∗ Φ (kArR 3)))
    ∗ ((Φ (kAlS 0) ∗ Φ (kAlS 1) ∗ Φ (kAlS 2) ∗ Φ (kAlS 3)) ∗ (Φ (kAlR 0) ∗ Φ (kAlR 1) ∗ Φ (kAlR 2) ∗ Φ (kAlR 3)))) := by
  rw [← four (fun t => Φ (kArS t)), ← four (fun t => Φ (kArR t)), ← four (fun t => Φ (kAlS t)), ← four (fun t => Φ (kAlR t))]
  refine (bigSep_univ_sum Φ).trans ?_
  refine congr (congrArg _ ((bigSep_univ_eq_bigSepL [()] (by decide) (by decide) _).trans (bigSepL_singleton _ _))) ?_
  refine (bigSep_univ_sum _).trans (congr (congrArg _ (bigSep_univ_sum _)) ?_)
  exact (bigSep_univ_sum _).trans (congr (congrArg _ (bigSep_univ_sum _)) (bigSep_univ_sum _))

/-- All the device's cells closed at zero. -/
theorem close_all (c : Dev nD) : iprop(recs m Kn ∗ bigSep Finset.univ fun k => posEnd (F := F) c k) ⊢ iprop(|={Set.univ}=> bigSep Finset.univ fun k => semVal (cell c k) 0) :=
  (bigSep_with_persistent (Ψ := fun k => iprop(|={Set.univ}=> semVal (cell c k) 0)) fun k _ => by
    unfold posEnd
    by_cases h : used k = true
    · rw [if_pos h]; exact close_used m Kn c k
    · rw [if_neg h]; exact close_unused m Kn c k (by simpa using h)).trans (bigSep_fupd _ _)

/-! ## The result buffer by chunks, the landing buffer by slots -/

theorem rows_disjoint (k k' : Dev nD) (h : k ≠ k') : Disjoint (rowR k).set (rowR k').set := by
  refine Rect.unit_disjoint (a := (0 : Fin 2)) ?_
  have : k.val ≠ k'.val := fun e => h (Fin.ext e)
  show 256 * k.val + 256 ≤ 256 * k'.val ∨ 256 * k'.val + 256 ≤ 256 * k.val
  omega
abbrev rowOf (i : S2048x1024.Idx) : Dev nD := ⟨(i 0).val / 256, by have : (i 0).val < 2048 := (i 0).isLt; show _ < 8; omega⟩
abbrev rowIx (i : S2048x1024.Idx) : S256x1024.Idx :=
  fun a => match a with
    | ⟨0, _⟩ => ⟨(i 0).val % 256, Nat.mod_lt _ (by decide)⟩
    | ⟨1, _⟩ => ⟨(i 1).val, (i 1).isLt⟩
theorem row_ix (i : S2048x1024.Idx) : (rowR (rowOf i)).emb (rowIx i) = i := by
  funext a
  refine Fin.ext ?_
  rw [Rect.emb_apply]
  match a with
  | ⟨0, _⟩ => simp; omega
  | ⟨1, _⟩ => simp
theorem rows_cover : (Finset.univ : Finset (Dev nD)).biUnion (fun k => (rowR k).set) = Finset.univ := by
  refine Finset.eq_univ_iff_forall.mpr fun i => Finset.mem_biUnion.mpr ⟨rowOf i, Finset.mem_univ _, ?_⟩
  exact (rowR (rowOf i)).mem_set.mpr fun a => ⟨(rowIx i a).val, (rowIx i a).isLt, by rw [← Rect.emb_apply, row_ix]⟩

theorem slots_disjoint (k k' : Fin 7) (h : k ≠ k') : Disjoint (slotR k).set (slotR k').set := by
  refine Rect.unit_disjoint (a := (0 : Fin 3)) ?_
  have : k.val ≠ k'.val := fun e => h (Fin.ext e)
  show k.val + 1 ≤ k'.val ∨ k'.val + 1 ≤ k.val
  omega
theorem slots_cover : (Finset.univ : Finset (Fin 7)).biUnion (fun k => (slotR k).set) = Finset.univ := by
  refine Finset.eq_univ_iff_forall.mpr fun i => Finset.mem_biUnion.mpr ⟨i 0, Finset.mem_univ _, ?_⟩
  refine (slotR (i 0)).mem_set.mpr fun a => ?_
  match a with
  | ⟨0, _⟩ => exact ⟨0, Nat.one_pos, by show _ = (i 0).val + 1 * 0; simp⟩
  | ⟨1, _⟩ => exact ⟨(i 1).val, (i 1).isLt, by show _ = 0 + 1 * (i 1).val; simp⟩
  | ⟨2, _⟩ => exact ⟨(i 2).val, (i 2).isLt, by show _ = 0 + 1 * (i 2).val; simp⟩

/-- The whole result: every chunk finished. -/
def outF : Vec F S2048x1024 .bf16 := fun i => fin m (rowOf i) (rowIx i)

theorem out_split (c : Dev nD) (X : Vec F S2048x1024 .bf16) : (owns (c : Thread nD τ) outM fullShare X : sProp 𝕄)
    ⊢ bigSep Finset.univ fun k => ownAny (F := F) c k :=
  (owns_rects (c : Thread nD τ) outM fullShare (fun k => rowR k) (fun _ _ => rfl) rows_disjoint rows_cover X).trans
    (bigSep_mono fun k _ => by
      have h : (own c k fullShare (fun j => X ((rowR k).emb j)) : sProp 𝕄) ⊢ ownAny (F := F) c k := by iintro H; iexists _; iexact H
      exact h)

theorem out_join (c : Dev nD) : (bigSep Finset.univ fun k => own c k fullShare (fin m k)) ⊢ (owns (c : Thread nD τ) outM fullShare (outF m) : sProp 𝕄) := by
  refine BIBase.Entails.trans ?_ (owns_of_rects (c : Thread nD τ) outM fullShare (fun k => rowR k) (fun _ _ => rfl) rows_disjoint rows_cover (outF m))
  refine bigSep_mono fun k _ => ?_
  have e : fin m k = fun j => outF m ((rowR k).emb j) := by
    funext j
    have h0 : (((rowR k).emb j) 0).val = 256 * k.val + (j 0).val := by rw [Rect.emb_apply]; simp
    have h1 : (((rowR k).emb j) 1).val = (j 1).val := by rw [Rect.emb_apply]; simp
    have hj : (j 0).val < 256 := (j 0).isLt
    have e1 : rowOf ((rowR k).emb j) = k := Fin.ext (by show (((rowR k).emb j) 0).val / 256 = k.val; rw [h0]; omega)
    have e2 : rowIx ((rowR k).emb j) = j := by
      funext a
      refine Fin.ext ?_
      match a with
      | ⟨0, _⟩ => show (((rowR k).emb j) 0).val % 256 = (j 0).val; rw [h0]; omega
      | ⟨1, _⟩ => exact h1
    unfold outF
    rw [e1, e2]
  rw [e]
  exact BI.Entails.refl _

theorem slots_split (c : Dev nD) (X : Vec F S7x256x1024 .bf16) : (owns (c : Thread nD τ) rsM fullShare X : sProp 𝕄)
    ⊢ bigSep Finset.univ fun s => slotAny (F := F) c s :=
  (owns_rects (c : Thread nD τ) rsM fullShare (fun k => slotR k) (fun _ _ => rfl) slots_disjoint slots_cover X).trans
    (bigSep_mono fun k _ => slot_resq c k _)

theorem slots_join (c : Dev nD) : (bigSep Finset.univ fun s => slotAny (F := F) c s) ⊢ (iprop(∃ X : Vec F S7x256x1024 .bf16, owns (c : Thread nD τ) rsM fullShare X) : sProp 𝕄) := by
  have h1 : (bigSep Finset.univ fun s => slotAny (F := F) c s) ⊢ (bigSep Finset.univ fun s => iprop(∃ X : Vec F S1x256x1024 .bf16, owns (c : Thread nD τ) (slotU s) fullShare X) : sProp 𝕄) :=
    bigSep_mono fun s _ => by
      have h : (slotAny (F := F) c s : sProp 𝕄) ⊢ iprop(∃ X : Vec F S1x256x1024 .bf16, owns (c : Thread nD τ) (slotU s) fullShare X) := by
        iintro ⟨%X, H⟩
        iexists (unsq X)
        iapply (slot_unsq c s X) $$ H
      exact h
  have : Nonempty (Vec F S1x256x1024 .bf16) := ⟨fun _ => Classical.choice (elt_nonempty .bf16)⟩
  refine h1.trans ((bigSep_exists_pi (Y := fun _ : Fin 7 => Vec F S1x256x1024 .bf16) Finset.univ
    (fun s X => (owns (c : Thread nD τ) (slotU s) fullShare X : sProp 𝕄))).trans ?_)
  iintro ⟨%y, H⟩
  iexists (fun i : S7x256x1024.Idx => y (i 0) (fun a => match a with
    | ⟨0, _⟩ => ⟨0, Nat.one_pos⟩
    | ⟨1, _⟩ => ⟨(i 1).val, (i 1).isLt⟩
    | ⟨2, _⟩ => ⟨(i 2).val, (i 2).isLt⟩))
  iapply (owns_of_rects (c : Thread nD τ) rsM fullShare (fun k => slotR k) (fun _ _ => rfl) slots_disjoint slots_cover _)
  have h : (bigSep Finset.univ fun s => (owns (c : Thread nD τ) (slotU s) fullShare (y s) : sProp 𝕄))
      ⊢ bigSep Finset.univ fun s => owns (c : Thread nD τ) (rsM.slice (slotR s) (fun _ => rfl)) fullShare (fun j => (fun i : S7x256x1024.Idx => y (i 0) (fun a => match a with
    | ⟨0, _⟩ => ⟨0, Nat.one_pos⟩
    | ⟨1, _⟩ => ⟨(i 1).val, (i 1).isLt⟩
    | ⟨2, _⟩ => ⟨(i 2).val, (i 2).isLt⟩)) ((slotR s).emb j)) := by
    refine bigSep_mono fun s _ => ?_
    have e : y s = fun j => (fun i : S7x256x1024.Idx => y (i 0) (fun a => match a with
      | ⟨0, _⟩ => ⟨0, Nat.one_pos⟩
      | ⟨1, _⟩ => ⟨(i 1).val, (i 1).isLt⟩
      | ⟨2, _⟩ => ⟨(i 2).val, (i 2).isLt⟩)) ((slotR s).emb j) := by
      funext j
      have hj : (j 0).val < 1 := (j 0).isLt
      have h0 : ((slotR s).emb j) 0 = s := Fin.ext (by
        show s.val + 1 * (j 0).val = s.val; omega)
      show y s j = y (((slotR s).emb j) 0) _
      rw [h0]
      congr 1
      funext a
      refine Fin.ext ?_
      match a with
      | ⟨0, _⟩ => show (j 0).val = 0; omega
      | ⟨1, _⟩ => show (j 1).val = 0 + 1 * (j 1).val; omega
      | ⟨2, _⟩ => show (j 2).val = 0 + 1 * (j 2).val; omega
    exact Entails.of_eq (congrArg (fun Z => (owns (c : Thread nD τ) (slotU s) fullShare Z : sProp 𝕄)) e)
  iapply h $$ H

/-! ## Entering and leaving the loop -/

theorem steps_start (c : Dev nD) : iprop((bigSep Finset.univ fun j => tok (F := F) c (kRsS j)) ∗ (bigSep Finset.univ fun j => tok (nxt c) (kRsR j))
      ∗ (bigSep Finset.univ fun j => slotAny (F := F) (nxt c) j) ∗ (bigSep Finset.univ fun j => pos0 c (kRsS j)) ∗ (bigSep Finset.univ fun j => pos0 c (kRsR j))
      ∗ (bigSep Finset.univ fun j => crd c (kRsR j))) ⊢ (bigSep Finset.univ fun j => slotSt (F := F) c 0 j : sProp 𝕄) := by
  have e : (fun j : Fin 7 => slotSt (F := F) c 0 j) = fun j => iprop(tok c (kRsS j) ∗ tok (nxt c) (kRsR j) ∗ slotAny (F := F) (nxt c) j ∗ pos0 c (kRsS j) ∗ pos0 c (kRsR j) ∗ crd c (kRsR j)) := by
    funext j; unfold slotSt; rw [if_pos (Nat.zero_le _)]
  rw [e]
  simp only [bigSep_sep']
  iintro H; iexact H

theorem steps_end (c : Dev nD) : (bigSep Finset.univ fun j => slotSt (F := F) c 8 j) ⊢ (iprop((bigSep Finset.univ fun j => pos1 (F := F) c (kRsS j)) ∗ (bigSep Finset.univ fun j => pos1 c (kRsR j))
      ∗ (bigSep Finset.univ fun j => slotAny (F := F) c j)) : sProp 𝕄) := by
  have e : (fun j : Fin 7 => slotSt (F := F) c 8 j) = fun j => iprop(pos1 c (kRsS j) ∗ pos1 c (kRsR j) ∗ slotAny (F := F) c j) := by
    funext j; unfold slotSt; rw [if_neg (by omega), if_neg (by omega)]
  rw [e]
  simp only [bigSep_sep']
  iintro H; iexact H

/-- The chunk of trip `j`, as a renumbering of the chunks. -/
def chunkE (c : Dev nD) : Fin 8 ≃ Dev nD where
  toFun j := up (8 - j.val) c
  invFun k := ⟨(c.val + 8 - k.val) % 8, Nat.mod_lt _ (by decide)⟩
  left_inv j := by revert c j; decide
  right_inv k := by revert c k; decide

theorem rows_start (c : Dev nD) : (bigSep Finset.univ fun k => ownAny (F := F) c k) ⊢ (bigSep Finset.univ fun j => rowSt (F := F) c 0 j : sProp 𝕄) := by
  rw [bigSep_univ_equiv (chunkE c)]
  refine bigSep_mono fun j _ => ?_
  unfold rowSt; rw [if_pos (Nat.zero_le _)]
  exact BI.Entails.refl _

/-- The eight finished chunks are all chunks. -/
theorem eight (c : Dev nD) (Φ : Dev nD → sProp 𝕄) : iprop(Φ (nxt c) ∗ Φ (up 8 c) ∗ Φ (up 7 c) ∗ Φ (up 6 c) ∗ Φ (up 5 c) ∗ Φ (up 2 c) ∗ Φ (up 3 c) ∗ Φ (up 4 c)) ⊢ bigSep Finset.univ Φ := by
  rw [bigSep_univ_equiv (chunkE c), bigSep_univ_eq_bigSepL [0, 1, 2, 3, 4, 5, 6, 7] (by decide) (by decide)]
  simp only [bigSepL_cons_cons, bigSepL_singleton]
  show iprop(Φ (nxt c) ∗ Φ (up 8 c) ∗ Φ (up 7 c) ∗ Φ (up 6 c) ∗ Φ (up 5 c) ∗ Φ (up 2 c) ∗ Φ (up 3 c) ∗ Φ (up 4 c)) ⊢ iprop(Φ (up 8 c) ∗ Φ (up 7 c) ∗ Φ (up 6 c) ∗ Φ (up 5 c) ∗ Φ (up 4 c) ∗ Φ (up 3 c) ∗ Φ (up 2 c) ∗ Φ (up 1 c))
  iintro ⟨H1, H8, H7, H6, H5, H2, H3, H4⟩
  isplitl [H8]; · iexact H8
  isplitl [H7]; · iexact H7
  isplitl [H6]; · iexact H6
  isplitl [H5]; · iexact H5
  isplitl [H4]; · iexact H4
  isplitl [H3]; · iexact H3
  isplitl [H2]; · iexact H2
  iexact H1

/-- Where the finished chunk is yet to go, by stream. -/
theorem trails (c : Dev nD) (k : Dev nD) : trailL (F := F) 7 (prv c) k ⊢ (iprop(ownAny (F := F) (up 4 c) k ∗ trailR (F := F) 3 (nxt c) k ∗ trailL (F := F) 3 (prv c) k) : sProp 𝕄) := by
  have e4 : prv (prv (prv (prv c))) = up 4 c := by revert c; decide
  have e5 : prv (prv (prv (prv (prv c)))) = nxt (nxt (nxt c)) := by revert c; decide
  have e6 : prv (prv (prv (prv (prv (prv c))))) = nxt (nxt c) := by revert c; decide
  have e7 : prv (prv (prv (prv (prv (prv (prv c)))))) = nxt c := by revert c; decide
  simp only [trailL_succ, trailR_succ]
  rw [e7, e6, e5, e4]
  unfold trailL trailR
  iintro ⟨H1, H2, H3, H4, H5, H6, H7, -⟩
  isplitl [H4]; · iexact H4
  isplitl [H5 H6 H7]
  · isplitl [H7]; · iexact H7
    isplitl [H6]; · iexact H6
    isplitl [H5]; · iexact H5
    iempintro
  isplitl [H1]; · iexact H1
  isplitl [H2]; · iexact H2
  isplitl [H3]; · iexact H3
  iempintro

/-- A finished chunk in three shares: across the ring, right, left. -/
theorem shares (c : Dev nD) (X : Blk F) : (own c (nxt c) fullShare X : sProp 𝕄) ⊢ iprop(own c (nxt c) qz X ∗ own c (nxt c) qr X ∗ own c (nxt c) ql X) := by
  iintro H
  ihave H := (owns_halves (c : Thread nD τ) (outRows (nxt c)) fullShare X).1 $$ H
  icases H with ⟨H1, H2⟩
  ihave H2 := (owns_halves (c : Thread nD τ) (outRows (nxt c)) fullShare.right X).1 $$ H2
  isplitl [H1]; · iexact H1
  iexact H2
theorem unshare (c : Dev nD) (X : Blk F) : (iprop(own c (nxt c) qz X ∗ own c (nxt c) qr X ∗ own c (nxt c) ql X) : sProp 𝕄) ⊢ own c (nxt c) fullShare X := by
  iintro ⟨H1, H2⟩
  ihave H2 := (owns_halves (c : Thread nD τ) (outRows (nxt c)) fullShare.right X).2 $$ H2
  iapply (owns_halves (c : Thread nD τ) (outRows (nxt c)) fullShare X).2
  isplitl [H1]; · iexact H1
  iexact H2

/-! ## The printed offsets, devices and semaphores of the all-gather -/

theorem dev1_at : ∀ (c : Dev nD) (h : k0_dev1 c < nD), (⟨k0_dev1 c, h⟩ : Dev nD) = prv c := by decide +kernel
theorem dev3_at : ∀ (c : Dev nD) (h : k0_dev3 c < nD), (⟨k0_dev3 c, h⟩ : Dev nD) = up 4 c := by decide +kernel
theorem dev4_at : ∀ (c : Dev nD) (h : k0_dev4 c < nD), (⟨k0_dev4 c, h⟩ : Dev nD) = nxt c := by decide +kernel
theorem dev5_at : ∀ (c : Dev nD) (h : k0_dev5 c < nD), (⟨k0_dev5 c, h⟩ : Dev nD) = prv c := by decide +kernel
theorem dev6_at : ∀ (c : Dev nD) (h : k0_dev6 c < nD), (⟨k0_dev6 c, h⟩ : Dev nD) = nxt c := by decide +kernel
theorem dev7_at : ∀ (c : Dev nD) (h : k0_dev7 c < nD), (⟨k0_dev7 c, h⟩ : Dev nD) = prv c := by decide +kernel
theorem dev8_at : ∀ (c : Dev nD) (h : k0_dev8 c < nD), (⟨k0_dev8 c, h⟩ : Dev nD) = nxt c := by decide +kernel
theorem dev9_at : ∀ (c : Dev nD) (h : k0_dev9 c < nD), (⟨k0_dev9 c, h⟩ : Dev nD) = prv c := by decide +kernel
theorem off18_at : ∀ c : Dev nD, k0_off18 c = ![256 * (nxt c).val, 0] := by decide +kernel
theorem off19_0 : ∀ c : Dev nD, k0_off19 c 0#32 = ![256 * (nxt c).val, 0] := by decide +kernel
theorem off19_1 : ∀ c : Dev nD, k0_off19 c 1#32 = ![256 * (up 8 c).val, 0] := by decide +kernel
theorem off19_2 : ∀ c : Dev nD, k0_off19 c 2#32 = ![256 * (up 7 c).val, 0] := by decide +kernel
theorem off20_0 : ∀ c : Dev nD, k0_off20 c 0#32 = ![256 * (nxt c).val, 0] := by decide +kernel
theorem off20_1 : ∀ c : Dev nD, k0_off20 c 1#32 = ![256 * (up 2 c).val, 0] := by decide +kernel
theorem off20_2 : ∀ c : Dev nD, k0_off20 c 2#32 = ![256 * (up 3 c).val, 0] := by decide +kernel

theorem semArS (s : Fin 4) {o : Fin 1 → ℕ} {hi : ∀ x, o x + S1.size x ≤ S4.size x} (ho : o = ![s.val]) :
    SemLoc.dma ((cc0_scratch5.slice (Rect.unit (s := S4) o S1.size hi)).squeeze S_ squeezes_S1_S_).sem = csem (kArS s) := by
  subst ho; revert s; decide +kernel
theorem semArR (s : Fin 4) {o : Fin 1 → ℕ} {hi : ∀ x, o x + S1.size x ≤ S4.size x} (ho : o = ![s.val]) :
    SemLoc.dma ((cc0_scratch6.slice (Rect.unit (s := S4) o S1.size hi)).squeeze S_ squeezes_S1_S_).sem = csem (kArR s) := by
  subst ho; revert s; decide +kernel
theorem semAlS (s : Fin 4) {o : Fin 1 → ℕ} {hi : ∀ x, o x + S1.size x ≤ S4.size x} (ho : o = ![s.val]) :
    SemLoc.dma ((cc0_scratch7.slice (Rect.unit (s := S4) o S1.size hi)).squeeze S_ squeezes_S1_S_).sem = csem (kAlS s) := by
  subst ho; revert s; decide +kernel
theorem semAlR (s : Fin 4) {o : Fin 1 → ℕ} {hi : ∀ x, o x + S1.size x ≤ S4.size x} (ho : o = ![s.val]) :
    SemLoc.dma ((cc0_scratch8.slice (Rect.unit (s := S4) o S1.size hi)).squeeze S_ squeezes_S1_S_).sem = csem (kAlR s) := by
  subst ho; revert s; decide +kernel

/-! ## The all-gather payments' payloads -/

theorem hz1 (c : Dev nD) : (own c (nxt c) qz (fin m (nxt c)) : sProp 𝕄) ⊢ pay m c (kArS 3) := Entails.of_eq rfl
theorem hz2 (c : Dev nD) : (iprop(own (up 4 c) (nxt c) fullShare (fin m (nxt c)) ∗ emp) : sProp 𝕄) ⊢ pay m (up 4 c) (kArR 3) := by
  have e : pay m (up 4 c) (kArR 3) = own (up 4 c) (nxt c) fullShare (fin m (nxt c)) := by
    show own (up 4 c) (up 5 (up 4 c)) fullShare (fin m (up 5 (up 4 c))) = _
    rw [show up 5 (up 4 c) = nxt c from by revert c; decide]
  rw [e]
  iintro ⟨H, -⟩; iexact H
theorem hr1 (c : Dev nD) : (own c (nxt c) qr (fin m (nxt c)) : sProp 𝕄) ⊢ pay m c (kArS 0) := Entails.of_eq rfl
theorem hl1 (c : Dev nD) : (own c (nxt c) ql (fin m (nxt c)) : sProp 𝕄) ⊢ pay m c (kAlS 0) := Entails.of_eq rfl
theorem hr3 (c : Dev nD) : (own c (up 8 c) fullShare (fin m (up 8 c)) : sProp 𝕄) ⊢ pay m c (kArS 1) := Entails.of_eq rfl
theorem hl3 (c : Dev nD) : (own c (up 2 c) fullShare (fin m (up 2 c)) : sProp 𝕄) ⊢ pay m c (kAlS 1) := Entails.of_eq rfl
theorem hr5 (c : Dev nD) : (own c (up 7 c) fullShare (fin m (up 7 c)) : sProp 𝕄) ⊢ pay m c (kArS 2) := Entails.of_eq rfl
theorem hl5 (c : Dev nD) : (own c (up 3 c) fullShare (fin m (up 3 c)) : sProp 𝕄) ⊢ pay m c (kAlS 2) := Entails.of_eq rfl
theorem right_pay (c : Dev nD) (t : Fin 4) (ht : t ≠ 3) (k : Dev nD) (n : ℕ) (hn : n = 2 - t.val) (hk : up (8 - t.val) (nxt c) = k) :
    (iprop(own (nxt c) k fullShare (fin m k) ∗ trailR (F := F) n (nxt (nxt c)) k) : sProp 𝕄) ⊢ pay m (nxt c) (kArR t) := by
  subst hk hn
  unfold pay; simp only; rw [if_neg ht]
theorem left_pay (c : Dev nD) (t : Fin 4) (k : Dev nD) (n : ℕ) (hn : n = 2 - t.val) (hk : up (2 + t.val) (prv c) = k) :
    (iprop(own (prv c) k fullShare (fin m k) ∗ trailL (F := F) n (prv (prv c)) k) : sProp 𝕄) ⊢ pay m (prv c) (kAlR t) := by
  subst hk hn
  unfold pay; exact BI.Entails.refl _

/-- What the right stream's receives hand over. -/
theorem got_r0 (c : Dev nD) : (pay m c (kArR 0) : sProp 𝕄) ⊢ iprop(own c (up 8 c) fullShare (fin m (up 8 c)) ∗ ownAny (F := F) (nxt c) (up 8 c) ∗ trailR (F := F) 1 (nxt (nxt c)) (up 8 c)) := Entails.of_eq rfl
theorem got_r1 (c : Dev nD) : (pay m c (kArR 1) : sProp 𝕄) ⊢ iprop(own c (up 7 c) fullShare (fin m (up 7 c)) ∗ ownAny (F := F) (nxt c) (up 7 c) ∗ trailR (F := F) 0 (nxt (nxt c)) (up 7 c)) := Entails.of_eq rfl
theorem got_r2 (c : Dev nD) : (pay m c (kArR 2) : sProp 𝕄) ⊢ iprop(own c (up 6 c) fullShare (fin m (up 6 c)) ∗ emp) := Entails.of_eq rfl
/-- What the left stream's receives hand over. -/
theorem got_l0 (c : Dev nD) : (pay m c (kAlR 0) : sProp 𝕄) ⊢ iprop(own c (up 2 c) fullShare (fin m (up 2 c)) ∗ ownAny (F := F) (prv c) (up 2 c) ∗ trailL (F := F) 1 (prv (prv c)) (up 2 c)) := Entails.of_eq rfl
theorem got_l1 (c : Dev nD) : (pay m c (kAlR 1) : sProp 𝕄) ⊢ iprop(own c (up 3 c) fullShare (fin m (up 3 c)) ∗ ownAny (F := F) (prv c) (up 3 c) ∗ trailL (F := F) 0 (prv (prv c)) (up 3 c)) := Entails.of_eq rfl
theorem got_l2 (c : Dev nD) : (pay m c (kAlR 2) : sProp 𝕄) ⊢ iprop(own c (up 4 c) fullShare (fin m (up 4 c)) ∗ emp) := Entails.of_eq rfl

theorem ret_fupd {α : Type} {Q : α → sProp 𝕄} (c : Dev nD) {a : α} : (iprop(|={Set.univ}=> Q a) : sProp 𝕄) ⊢ wpc c (.ret a) Q := by
  unfold wpc; rw [wp_ret]

/-! ## The run -/

/-- What a device holds at the start, the windows' buffers apart. -/
def startC (c : Dev nD) : sProp 𝕄 :=
  iprop(recs m Kn ∗ (bigSep Finset.univ fun k => pos0 (F := F) c k) ∗ (bigSep Finset.univ fun k => tokOf (F := F) c k) ∗ bigSep Finset.univ fun k => crdOf (F := F) c k)
/-- The scratch buffers at anything. -/
def scratch (c : Dev nD) : sProp 𝕄 := iprop(scr (F := F) c ∗ ∃ Z : Vec F S7x256x1024 .bf16, owns (c : Thread nD τ) rsM fullShare Z)

set_option maxHeartbeats 4000000 in
theorem run_body (c : Dev nD) :
    iprop(startC m Kn c ∗ scratch (F := F) c ∗ ins m c ∗ (∃ Y : Vec F S2048x1024 .bf16, owns (c : Thread nD τ) outM fullShare Y) ∗ (∃ W, owes (c : Thread nD τ) (OL payList c) W))
      ⊢ wpc c (cc0_body xM (Memref.isWhole_whole _) wqM (Memref.isWhole_whole _) keM (Memref.isWhole_whole _) veM (Memref.isWhole_whole _)
      woM (Memref.isWhole_whole _) outM (Memref.isWhole_whole _) qM (Memref.isWhole_whole _) ctM (Memref.isWhole_whole _) rsM (Memref.isWhole_whole _)
      cc0_scratch3 cc0_scratch4 cc0_scratch5 cc0_scratch6 cc0_scratch7 cc0_scratch8)
        (fun _ => iprop(ins m c ∗ owns (c : Thread nD τ) outM fullShare (outF m) ∗ scratch (F := F) c ∗ (∃ W, owes (c : Thread nD τ) 0 W) ∗ bigSep Finset.univ fun k => semVal (cell c k) 0)) := by
  simp only [cc0_body_eq_skeleton]; unfold cc0_body_skel
  simp only [k0_part7_eq_skeleton, k0_part8_eq_skeleton, k0_part9_eq_skeleton, k0_part10_eq_skeleton, k0_part11_eq_skeleton, k0_part12_eq_skeleton]
  unfold k0_part7_skel k0_part8_skel k0_part9_skel k0_part10_skel k0_part11_skel k0_part12_skel
  simp only [semSignalWord, semWaitWord, Prog.lift, Prog.bind_op, Prog.bind_ret, Prog.pure_eq_ret, Prog.bind_assoc, wp_deviceId]
  unfold startC scratch
  iintro ⟨⟨#HR, Hp, Ht, Hc⟩, ⟨Hs, ⟨%Z, Hrs⟩⟩, Hi, ⟨%Y, Ho⟩, ⟨%W, HO⟩⟩
  ihave Hp := (Entails.of_eq (splitK _)) $$ Hp
  icases Hp with ⟨HpB, ⟨HpS, HpR⟩, ⟨⟨Pr0, Pr1, Pr2, Pr3⟩, ⟨Pq0, Pq1, Pq2, Pq3⟩⟩, ⟨⟨Pl0, Pl1, Pl2, Pl3⟩, ⟨Pk0, Pk1, Pk2, Pk3⟩⟩⟩
  ihave Ht := (show (bigSep Finset.univ fun k => tokOf (F := F) c k) ⊢ iprop(tok (prv c) kBar
      ∗ ((bigSep Finset.univ fun j => tok c (kRsS j)) ∗ (bigSep Finset.univ fun j => tok (nxt c) (kRsR j)))
      ∗ ((tok c (kArS 0) ∗ tok c (kArS 1) ∗ tok c (kArS 2) ∗ tok c (kArS 3)) ∗ (tok (nxt c) (kArR 0) ∗ tok (nxt c) (kArR 1) ∗ tok (nxt c) (kArR 2) ∗ tok (up 4 c) (kArR 3)))
      ∗ ((tok c (kAlS 0) ∗ tok c (kAlS 1) ∗ tok c (kAlS 2) ∗ emp) ∗ (tok (prv c) (kAlR 0) ∗ tok (prv c) (kAlR 1) ∗ tok (prv c) (kAlR 2) ∗ emp)))
    from Entails.of_eq (splitK _)) $$ Ht
  icases Ht with ⟨HtB, ⟨HtS, HtR⟩, ⟨⟨Tr0, Tr1, Tr2, Tr3⟩, ⟨Tq0, Tq1, Tq2, Tq3⟩⟩, ⟨⟨Tl0, Tl1, Tl2, -⟩, ⟨Tk0, Tk1, Tk2, -⟩⟩⟩
  ihave Hc := (show (bigSep Finset.univ fun k => crdOf (F := F) c k) ⊢ iprop(crd c kBar
      ∗ ((bigSep Finset.univ fun j : Fin 7 => iprop(emp)) ∗ (bigSep Finset.univ fun j => crd c (kRsR j)))
      ∗ ((emp ∗ emp ∗ emp ∗ emp) ∗ (crd c (kArR 0) ∗ crd c (kArR 1) ∗ crd c (kArR 2) ∗ crd c (kArR 3)))
      ∗ ((emp ∗ emp ∗ emp ∗ emp) ∗ (crd c (kAlR 0) ∗ crd c (kAlR 1) ∗ crd c (kAlR 2) ∗ emp)))
    from Entails.of_eq (splitK _)) $$ Hc
  icases Hc with ⟨HcB, ⟨-, HcR⟩, ⟨-, ⟨Cq0, Cq1, Cq2, Cq3⟩⟩, ⟨-, ⟨Ck0, Ck1, Ck2, -⟩⟩⟩
  ihave Hrs := (slots_split c Z) $$ Hrs
  ihave Ho := (out_split c Y) $$ Ho
  -- the handshake
  iapply (signal_bar m Kn c (dev1_at c _) (payList.drop 1)) $$ [HO HtB Hrs]
  · isplitr; · iexact HR
    isplitl [HO]; · iexact HO
    isplitl [HtB]; · iexact HtB
    iexact Hrs
  iintro HO
  iapply (wait_bar m Kn c (payList.drop 1) (by decide)) $$ [HcB HpB HO]
  · isplitr; · iexact HR
    isplitl [HcB]; · iexact HcB
    isplitl [HO]; · iexact HO
    iexact HpB
  iintro ⟨⟨%W1, HO⟩, HpB, Hsl⟩
  ihave Hsl := (Entails.of_eq (pay_bar m c)) $$ Hsl
  -- the loop
  iapply (Scf.wp_for_bind frame (wpE (defs₀ (F := F)) 𝒱₀ (c : Thread nD τ) none) Set.univ _ _ _ k0_t1_ok _ _ (fun n _ => inv m Kn c n)
    (fun k _ => trip m Kn c k _)) $$ [Hi Hs HO HpS HpR HtS HtR HcR Ho Hsl]
  · unfold inv
    isplitr; · iexact HR
    isplitl [Hi]; · iexact Hi
    isplitl [Hs]; · iexact Hs
    isplitl [HO]; · iexists W1; iexact HO
    isplitl [HpS HpR HtS HtR HcR Hsl]
    · iapply (steps_start c)
      isplitl [HtS]; · iexact HtS
      isplitl [HtR]; · iexact HtR
      isplitl [Hsl]; · iexact Hsl
      isplitl [HpS]; · iexact HpS
      isplitl [HpR]; · iexact HpR
      iexact HcR
    isplitl [Ho]; · iapply (rows_start c) $$ Ho
    rw [if_neg (by decide)]; iempintro
  iintro %_ Hinv
  ihave Hinv := (show _ ⊢ inv m Kn c 8 from Entails.of_eq (congrArg (inv m Kn c) trips_eq)) $$ Hinv
  unfold inv
  icases Hinv with ⟨-, Hi, Hs, ⟨%W2, HO⟩, HS, -, HE⟩
  ihave HE := (show _ ⊢ iprop(own c (nxt c) fullShare (fin m (nxt c)) ∗ trailL (F := F) 7 (prv c) (nxt c)) from
    Entails.of_eq (by rw [if_pos rfl]; unfold fin; rw [show prv (nxt c) = c from up_inv 1 c])) $$ HE
  icases HE with ⟨Hown, Htr⟩
  ihave Htr := (trails c (nxt c)) $$ Htr
  icases Htr with ⟨Dz, Dr, Dl⟩
  ihave Dr := (show trailR (F := F) 3 (nxt c) (nxt c) ⊢ iprop(ownAny (F := F) (nxt c) (nxt c) ∗ trailR (F := F) 2 (nxt (nxt c)) (nxt c)) from BI.Entails.refl _) $$ Dr
  ihave Dl := (show trailL (F := F) 3 (prv c) (nxt c) ⊢ iprop(ownAny (F := F) (prv c) (nxt c) ∗ trailL (F := F) 2 (prv (prv c)) (nxt c)) from BI.Entails.refl _) $$ Dl
  icases Dr with ⟨Dr, Rr⟩
  icases Dl with ⟨Dl, Rl⟩
  ihave Hown := (shares c _) $$ Hown
  icases Hown with ⟨Xz, Xr, Xl⟩
  ihave HO := (show (owes (c : Thread nD τ) (OL (payList.drop (1 + min 8 7)) c) W2 : sProp 𝕄) ⊢ owes (c : Thread nD τ) (OL [kArR 3, kArR 0, kAlR 0, kArR 1, kAlR 1, kArR 2, kAlR 2] c) W2 from Entails.of_eq rfl) $$ HO
  -- the finished chunk across the ring, and right and left
  iapply (send_ag m Kn c (kArS 3) (kArR 3) rfl rfl rfl rfl rfl (dev3_at c _) (nxt c) (off18_at c) (semArS 3 rfl) (semArR 3 rfl) qz (fin m (nxt c)) iprop(emp)
    (hz1 m c) (hz2 m c) [kArR 0, kAlR 0, kArR 1, kAlR 1, kArR 2, kAlR 2]) $$ [Xz Dz  HO Tr3 Tq3]
  · isplitr; · iexact HR
    isplitl [Xz]; · iexact Xz
    isplitl [Dz]; · iexact Dz
    isplitl []; · iempintro
    isplitl [HO]; · iexact HO
    isplitl [Tr3]; · iexact Tr3
    iexact Tq3
  iintro ⟨Cr3, HO⟩
  iapply (send_ag m Kn c (kArS 0) (kArR 0) rfl rfl rfl rfl rfl (dev4_at c _) (nxt c) (off19_0 c) (semArS 0 rfl) (semArR 0 rfl) qr (fin m (nxt c)) (trailR (F := F) 2 (nxt (nxt c)) (nxt c))
    (hr1 m c) (right_pay m c 0 (by decide) _ _ rfl (by revert c; decide)) [kAlR 0, kArR 1, kAlR 1, kArR 2, kAlR 2]) $$ [Xr Dr Rr HO Tr0 Tq0]
  · isplitr; · iexact HR
    isplitl [Xr]; · iexact Xr
    isplitl [Dr]; · iexact Dr
    isplitl [Rr]; · iexact Rr
    isplitl [HO]; · iexact HO
    isplitl [Tr0]; · iexact Tr0
    iexact Tq0
  iintro ⟨Cr0, HO⟩
  iapply (send_ag m Kn c (kAlS 0) (kAlR 0) rfl rfl rfl rfl rfl (dev5_at c _) (nxt c) (off20_0 c) (semAlS 0 rfl) (semAlR 0 rfl) ql (fin m (nxt c)) (trailL (F := F) 2 (prv (prv c)) (nxt c))
    (hl1 m c) (left_pay m c 0 _ _ rfl (by revert c; decide)) [kArR 1, kAlR 1, kArR 2, kAlR 2]) $$ [Xl Dl Rl HO Tl0 Tk0]
  · isplitr; · iexact HR
    isplitl [Xl]; · iexact Xl
    isplitl [Dl]; · iexact Dl
    isplitl [Rl]; · iexact Rl
    isplitl [HO]; · iexact HO
    isplitl [Tl0]; · iexact Tl0
    iexact Tk0
  iintro ⟨Cl0, HO⟩
  iapply (wait_dma m Kn c (kArS 0) rfl (semArS 0 rfl) (by rfl) [kArR 1, kAlR 1, kArR 2, kAlR 2] (by decide)) $$ [Cr0 Pr0 HO]
  · isplitr; · iexact HR
    isplitl [Cr0]; · iexact Cr0
    isplitl [HO]; · iexact HO
    iexact Pr0
  iintro ⟨⟨%WsemArS0, HO⟩, Pr0, Xr⟩
  iapply (wait_dma m Kn c (kArR 0) rfl (semArR 0 rfl) (by rfl) [kArR 1, kAlR 1, kArR 2, kAlR 2] (by decide)) $$ [Cq0 Pq0 HO]
  · isplitr; · iexact HR
    isplitl [Cq0]; · iexact Cq0
    isplitl [HO]; · iexact HO
    iexact Pq0
  iintro ⟨⟨%WsemArR0, HO⟩, Pq0, Dr⟩
  ihave Dr := (got_r0 m c) $$ Dr
  icases Dr with ⟨Y8, Dr, Rr⟩
  iapply (wait_dma m Kn c (kAlS 0) rfl (semAlS 0 rfl) (by rfl) [kArR 1, kAlR 1, kArR 2, kAlR 2] (by decide)) $$ [Cl0 Pl0 HO]
  · isplitr; · iexact HR
    isplitl [Cl0]; · iexact Cl0
    isplitl [HO]; · iexact HO
    iexact Pl0
  iintro ⟨⟨%WsemAlS0, HO⟩, Pl0, Xl⟩
  iapply (wait_dma m Kn c (kAlR 0) rfl (semAlR 0 rfl) (by rfl) [kArR 1, kAlR 1, kArR 2, kAlR 2] (by decide)) $$ [Ck0 Pk0 HO]
  · isplitr; · iexact HR
    isplitl [Ck0]; · iexact Ck0
    isplitl [HO]; · iexact HO
    iexact Pk0
  iintro ⟨⟨%WsemAlR0, HO⟩, Pk0, Dl⟩
  ihave Dl := (got_l0 m c) $$ Dl
  icases Dl with ⟨Y2, Dl, Rl⟩
  iapply (send_ag m Kn c (kArS 1) (kArR 1) rfl rfl rfl rfl rfl (dev6_at c _) (up 8 c) (off19_1 c) (semArS 1 rfl) (semArR 1 rfl) fullShare (fin m (up 8 c)) (trailR (F := F) 1 (nxt (nxt c)) (up 8 c))
    (hr3 m c) (right_pay m c 1 (by decide) _ _ rfl (by revert c; decide)) [kAlR 1, kArR 2, kAlR 2]) $$ [Y8 Dr Rr HO Tr1 Tq1]
  · isplitr; · iexact HR
    isplitl [Y8]; · iexact Y8
    isplitl [Dr]; · iexact Dr
    isplitl [Rr]; · iexact Rr
    isplitl [HO]; · iexact HO
    isplitl [Tr1]; · iexact Tr1
    iexact Tq1
  iintro ⟨Cr1, HO⟩
  iapply (send_ag m Kn c (kAlS 1) (kAlR 1) rfl rfl rfl rfl rfl (dev7_at c _) (up 2 c) (off20_1 c) (semAlS 1 rfl) (semAlR 1 rfl) fullShare (fin m (up 2 c)) (trailL (F := F) 1 (prv (prv c)) (up 2 c))
    (hl3 m c) (left_pay m c 1 _ _ rfl (by revert c; decide)) [kArR 2, kAlR 2]) $$ [Y2 Dl Rl HO Tl1 Tk1]
  · isplitr; · iexact HR
    isplitl [Y2]; · iexact Y2
    isplitl [Dl]; · iexact Dl
    isplitl [Rl]; · iexact Rl
    isplitl [HO]; · iexact HO
    isplitl [Tl1]; · iexact Tl1
    iexact Tk1
  iintro ⟨Cl1, HO⟩
  iapply (wait_dma m Kn c (kArS 1) rfl (semArS 1 rfl) (by rfl) [kArR 2, kAlR 2] (by decide)) $$ [Cr1 Pr1 HO]
  · isplitr; · iexact HR
    isplitl [Cr1]; · iexact Cr1
    isplitl [HO]; · iexact HO
    iexact Pr1
  iintro ⟨⟨%WsemArS1, HO⟩, Pr1, Y8⟩
  iapply (wait_dma m Kn c (kArR 1) rfl (semArR 1 rfl) (by rfl) [kArR 2, kAlR 2] (by decide)) $$ [Cq1 Pq1 HO]
  · isplitr; · iexact HR
    isplitl [Cq1]; · iexact Cq1
    isplitl [HO]; · iexact HO
    iexact Pq1
  iintro ⟨⟨%WsemArR1, HO⟩, Pq1, Dr⟩
  ihave Dr := (got_r1 m c) $$ Dr
  icases Dr with ⟨Y7, Dr, Rr⟩
  iapply (wait_dma m Kn c (kAlS 1) rfl (semAlS 1 rfl) (by rfl) [kArR 2, kAlR 2] (by decide)) $$ [Cl1 Pl1 HO]
  · isplitr; · iexact HR
    isplitl [Cl1]; · iexact Cl1
    isplitl [HO]; · iexact HO
    iexact Pl1
  iintro ⟨⟨%WsemAlS1, HO⟩, Pl1, Y2⟩
  iapply (wait_dma m Kn c (kAlR 1) rfl (semAlR 1 rfl) (by rfl) [kArR 2, kAlR 2] (by decide)) $$ [Ck1 Pk1 HO]
  · isplitr; · iexact HR
    isplitl [Ck1]; · iexact Ck1
    isplitl [HO]; · iexact HO
    iexact Pk1
  iintro ⟨⟨%WsemAlR1, HO⟩, Pk1, Dl⟩
  ihave Dl := (got_l1 m c) $$ Dl
  icases Dl with ⟨Y3, Dl, Rl⟩
  iapply (send_ag m Kn c (kArS 2) (kArR 2) rfl rfl rfl rfl rfl (dev8_at c _) (up 7 c) (off19_2 c) (semArS 2 rfl) (semArR 2 rfl) fullShare (fin m (up 7 c)) (trailR (F := F) 0 (nxt (nxt c)) (up 7 c))
    (hr5 m c) (right_pay m c 2 (by decide) _ _ rfl (by revert c; decide)) [kAlR 2]) $$ [Y7 Dr Rr HO Tr2 Tq2]
  · isplitr; · iexact HR
    isplitl [Y7]; · iexact Y7
    isplitl [Dr]; · iexact Dr
    isplitl [Rr]; · iexact Rr
    isplitl [HO]; · iexact HO
    isplitl [Tr2]; · iexact Tr2
    iexact Tq2
  iintro ⟨Cr2, HO⟩
  iapply (send_ag m Kn c (kAlS 2) (kAlR 2) rfl rfl rfl rfl rfl (dev9_at c _) (up 3 c) (off20_2 c) (semAlS 2 rfl) (semAlR 2 rfl) fullShare (fin m (up 3 c)) (trailL (F := F) 0 (prv (prv c)) (up 3 c))
    (hl5 m c) (left_pay m c 2 _ _ rfl (by revert c; decide)) []) $$ [Y3 Dl Rl HO Tl2 Tk2]
  · isplitr; · iexact HR
    isplitl [Y3]; · iexact Y3
    isplitl [Dl]; · iexact Dl
    isplitl [Rl]; · iexact Rl
    isplitl [HO]; · iexact HO
    isplitl [Tl2]; · iexact Tl2
    iexact Tk2
  iintro ⟨Cl2, HO⟩
  iapply (wait_dma m Kn c (kArS 2) rfl (semArS 2 rfl) (by rfl) [] (by decide)) $$ [Cr2 Pr2 HO]
  · isplitr; · iexact HR
    isplitl [Cr2]; · iexact Cr2
    isplitl [HO]; · iexact HO
    iexact Pr2
  iintro ⟨⟨%WsemArS2, HO⟩, Pr2, Y7⟩
  iapply (wait_dma m Kn c (kArR 2) rfl (semArR 2 rfl) (by rfl) [] (by decide)) $$ [Cq2 Pq2 HO]
  · isplitr; · iexact HR
    isplitl [Cq2]; · iexact Cq2
    isplitl [HO]; · iexact HO
    iexact Pq2
  iintro ⟨⟨%WsemArR2, HO⟩, Pq2, Dr⟩
  ihave Dr := (got_r2 m c) $$ Dr
  icases Dr with ⟨Y6, -⟩
  iapply (wait_dma m Kn c (kAlS 2) rfl (semAlS 2 rfl) (by rfl) [] (by decide)) $$ [Cl2 Pl2 HO]
  · isplitr; · iexact HR
    isplitl [Cl2]; · iexact Cl2
    isplitl [HO]; · iexact HO
    iexact Pl2
  iintro ⟨⟨%WsemAlS2, HO⟩, Pl2, Y3⟩
  iapply (wait_dma m Kn c (kAlR 2) rfl (semAlR 2 rfl) (by rfl) [] (by decide)) $$ [Ck2 Pk2 HO]
  · isplitr; · iexact HR
    isplitl [Ck2]; · iexact Ck2
    isplitl [HO]; · iexact HO
    iexact Pk2
  iintro ⟨⟨%WsemAlR2, HO⟩, Pk2, Dl⟩
  ihave Dl := (got_l2 m c) $$ Dl
  icases Dl with ⟨Y4, -⟩
  iapply (wait_dma m Kn c (kArS 3) rfl (semArS 3 rfl) (by rfl) [] (by decide)) $$ [Cr3 Pr3 HO]
  · isplitr; · iexact HR
    isplitl [Cr3]; · iexact Cr3
    isplitl [HO]; · iexact HO
    iexact Pr3
  iintro ⟨⟨%WsemArS3, HO⟩, Pr3, Xz⟩
  iapply (wait_dma m Kn c (kArR 3) rfl (semArR 3 rfl) (by rfl) [] (by decide)) $$ [Cq3 Pq3 HO]
  · isplitr; · iexact HR
    isplitl [Cq3]; · iexact Cq3
    isplitl [HO]; · iexact HO
    iexact Pq3
  iintro ⟨⟨%WsemArR3, HO⟩, Pq3, Y5⟩
  -- the cells closed, the buffers put together again
  ihave HS := (steps_end c) $$ HS
  icases HS with ⟨HpS, HpR, Hsl⟩
  iapply (ret_fupd c)
  ihave Hz := (close_all m Kn c) $$ [HpB HpS HpR Pr0 Pr1 Pr2 Pr3 Pq0 Pq1 Pq2 Pq3 Pl0 Pl1 Pl2 Pl3 Pk0 Pk1 Pk2 Pk3]
  · isplitr; · iexact HR
    iapply (show iprop(pos1 (F := F) c kBar
      ∗ ((bigSep Finset.univ fun j => pos1 c (kRsS j)) ∗ (bigSep Finset.univ fun j => pos1 c (kRsR j)))
      ∗ ((pos1 c (kArS 0) ∗ pos1 c (kArS 1) ∗ pos1 c (kArS 2) ∗ pos1 c (kArS 3)) ∗ (pos1 c (kArR 0) ∗ pos1 c (kArR 1) ∗ pos1 c (kArR 2) ∗ pos1 c (kArR 3)))
      ∗ ((pos1 c (kAlS 0) ∗ pos1 c (kAlS 1) ∗ pos1 c (kAlS 2) ∗ pos0 c (kAlS 3)) ∗ (pos1 c (kAlR 0) ∗ pos1 c (kAlR 1) ∗ pos1 c (kAlR 2) ∗ pos0 c (kAlR 3))))
      ⊢ bigSep Finset.univ fun k => posEnd (F := F) c k from Entails.of_eq (splitK (fun k => posEnd (F := F) c k)).symm)
    isplitl [HpB]; · iexact HpB
    isplitl [HpS HpR]
    · isplitl [HpS]; · iexact HpS
      iexact HpR
    isplitl [Pr0 Pr1 Pr2 Pr3 Pq0 Pq1 Pq2 Pq3]
    · isplitl [Pr0 Pr1 Pr2 Pr3]
      · isplitl [Pr0]; · iexact Pr0
        isplitl [Pr1]; · iexact Pr1
        isplitl [Pr2]; · iexact Pr2
        iexact Pr3
      isplitl [Pq0]; · iexact Pq0
      isplitl [Pq1]; · iexact Pq1
      isplitl [Pq2]; · iexact Pq2
      iexact Pq3
    isplitl [Pl0 Pl1 Pl2 Pl3]
    · isplitl [Pl0]; · iexact Pl0
      isplitl [Pl1]; · iexact Pl1
      isplitl [Pl2]; · iexact Pl2
      iexact Pl3
    isplitl [Pk0]; · iexact Pk0
    isplitl [Pk1]; · iexact Pk1
    isplitl [Pk2]; · iexact Pk2
    iexact Pk3
  imod Hz
  imodintro
  isplitl [Hi]; · iexact Hi
  isplitl [Xz Xr Xl Y8 Y7 Y6 Y5 Y2 Y3 Y4]
  · iapply (out_join m c)
    iapply (eight c (fun k => own c k fullShare (fin m k)))
    isplitl [Xz Xr Xl]
    · iapply (unshare c (fin m (nxt c)))
      isplitl [Xz]; · iapply (show pay m c (kArS 3) ⊢ own c (nxt c) qz (fin m (nxt c)) from Entails.of_eq rfl) $$ Xz
      isplitl [Xr]; · iapply (show pay m c (kArS 0) ⊢ own c (nxt c) qr (fin m (nxt c)) from Entails.of_eq rfl) $$ Xr
      iapply (show pay m c (kAlS 0) ⊢ own c (nxt c) ql (fin m (nxt c)) from Entails.of_eq rfl) $$ Xl
    isplitl [Y8]; · iapply (show pay m c (kArS 1) ⊢ own c (up 8 c) fullShare (fin m (up 8 c)) from Entails.of_eq rfl) $$ Y8
    isplitl [Y7]; · iapply (show pay m c (kArS 2) ⊢ own c (up 7 c) fullShare (fin m (up 7 c)) from Entails.of_eq rfl) $$ Y7
    isplitl [Y6]; · iexact Y6
    isplitl [Y5]; · iapply (show pay m c (kArR 3) ⊢ own c (up 5 c) fullShare (fin m (up 5 c)) from Entails.of_eq rfl) $$ Y5
    isplitl [Y2]; · iapply (show pay m c (kAlS 1) ⊢ own c (up 2 c) fullShare (fin m (up 2 c)) from Entails.of_eq rfl) $$ Y2
    isplitl [Y3]; · iapply (show pay m c (kAlS 2) ⊢ own c (up 3 c) fullShare (fin m (up 3 c)) from Entails.of_eq rfl) $$ Y3
    iexact Y4
  isplitl [Hs Hsl]
  · isplitl [Hs]; · iexact Hs
    iapply (slots_join c) $$ Hsl
  isplitl [HO]; · iexists _; iexact HO
  iexact Hz

end Cert.RingProof

end
-- ==== Proof.Launch.lean ====
/- The launch: the ring's ghost state dealt to the devices, the body put into the pipeline, and the run of the whole
   program with its final memory. -/
module

public import Idealize.ShloMosaic.Lib.Pipeline.CollectiveSegs
public import proofs.«01_k».proof.Proof.Gather

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device's body starts from, the windows' buffers apart. -/
def Φ₀ (c : Dev nD) : sProp 𝕄 := iprop((∃ Kn, startC m Kn c) ∗ scratch (F := F) c)
/-- And ends with: its buffers, and every cell at zero. -/
def Φ₁ (c : Dev nD) : sProp 𝕄 := iprop(scratch (F := F) c ∗ bigSep Finset.univ fun k => semVal (cell c k) 0)

def dats (_ : Fin 1) (c : Dev nD) : Dat τ (Elt F) Unit ℕ UU ℕ cfg0 c where
  A w := m ((cfg0.win w).arr.view.loc (c : Thread nD τ))
  after w _ := match w with
    | ⟨0, _⟩ => inX m c
    | ⟨1, _⟩ => inWq m c
    | ⟨2, _⟩ => inK m c
    | ⟨3, _⟩ => inV m c
    | ⟨4, _⟩ => inWo m c
    | ⟨5, _⟩ => outF m
  Φ t := match t with
    | ⟨0, _⟩ => Φ₀ m c
    | ⟨_ + 1, _⟩ => Φ₁ (F := F) c
  q _ := fullShare
  owed t := match t with
    | ⟨0, _⟩ => OL payList c
    | ⟨_ + 1, _⟩ => 0

omit [FloatOps F] [Named F] in
theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Each input window's staging buffer holds the whole argument block when the body starts. -/
theorem before_0 (c : Dev nD) (d) : (dats m 0 c).before (0 : Fin 6) t₀ d = inX m c := by
  unfold Dat.before; rw [if_pos (fetch0_0 t₀)]
  have hz : (fun a => (win0_0.index (0 : Fin 1)) a * main_arg0.ty.shape.size a) = fun _ => 0 := funext fun a => by fin_cases a <;> decide
  exact Memref.read_access_unit_zero (Elt F) main_arg0 hz (fun a => by fin_cases a <;> decide) (m ((c : Thread nD τ).loc main_arg0))
theorem before_1 (c : Dev nD) (d) : (dats m 0 c).before (1 : Fin 6) t₀ d = inWq m c := by
  unfold Dat.before; rw [if_pos (fetch0_1 t₀)]
  have hz : (fun a => (win0_1.index (0 : Fin 1)) a * main_arg1.ty.shape.size a) = fun _ => 0 := funext fun a => by fin_cases a <;> decide
  exact Memref.read_access_unit_zero (Elt F) main_arg1 hz (fun a => by fin_cases a <;> decide) (m ((c : Thread nD τ).loc main_arg1))
theorem before_2 (c : Dev nD) (d) : (dats m 0 c).before (2 : Fin 6) t₀ d = inK m c := by
  unfold Dat.before; rw [if_pos (fetch0_2 t₀)]
  have hz : (fun a => (win0_2.index (0 : Fin 1)) a * main_arg2.ty.shape.size a) = fun _ => 0 := funext fun a => by fin_cases a <;> decide
  exact Memref.read_access_unit_zero (Elt F) main_arg2 hz (fun a => by fin_cases a <;> decide) (m ((c : Thread nD τ).loc main_arg2))
theorem before_3 (c : Dev nD) (d) : (dats m 0 c).before (3 : Fin 6) t₀ d = inV m c := by
  unfold Dat.before; rw [if_pos (fetch0_3 t₀)]
  have hz : (fun a => (win0_3.index (0 : Fin 1)) a * main_arg3.ty.shape.size a) = fun _ => 0 := funext fun a => by fin_cases a <;> decide
  exact Memref.read_access_unit_zero (Elt F) main_arg3 hz (fun a => by fin_cases a <;> decide) (m ((c : Thread nD τ).loc main_arg3))
theorem before_4 (c : Dev nD) (d) : (dats m 0 c).before (4 : Fin 6) t₀ d = inWo m c := by
  unfold Dat.before; rw [if_pos (fetch0_4 t₀)]
  have hz : (fun a => (win0_4.index (0 : Fin 1)) a * main_arg4.ty.shape.size a) = fun _ => 0 := funext fun a => by fin_cases a <;> decide
  exact Memref.read_access_unit_zero (Elt F) main_arg4 hz (fun a => by fin_cases a <;> decide) (m ((c : Thread nD τ).loc main_arg4))

/-! ## The body in the pipeline -/

abbrev inp {s : Shape} (c : Dev nD) (M : Memref sig .tc .vmem s .bf16) (X : Vec F s .bf16) : sProp 𝕄 :=
  owns (Ix := Unit) (Val := Elt F) (Name := ℕ) (U := UU) (Lvl := ℕ) (c : Thread nD τ) M fullShare X

def bodyPre (c : Dev nD) : sProp 𝕄 :=
  iprop(Φ₀ m c ∗ (dats m 0 c).owesAt () t₀.castSucc
    ∗ (∃ d, inp c xM ((dats m 0 c).before (0 : Fin 6) t₀ d))
    ∗ (∃ d, inp c wqM ((dats m 0 c).before (1 : Fin 6) t₀ d))
    ∗ (∃ d, inp c keM ((dats m 0 c).before (2 : Fin 6) t₀ d))
    ∗ (∃ d, inp c veM ((dats m 0 c).before (3 : Fin 6) t₀ d))
    ∗ (∃ d, inp c woM ((dats m 0 c).before (4 : Fin 6) t₀ d))
    ∗ (∃ d, inp c outM ((dats m 0 c).before (5 : Fin 6) t₀ d)))
def bodyPost (c : Dev nD) : sProp 𝕄 :=
  iprop(Φ₁ (F := F) c ∗ (dats m 0 c).owesAt () t₀.succ ∗ inp c xM (inX m c) ∗ inp c wqM (inWq m c) ∗ inp c keM (inK m c) ∗ inp c veM (inV m c)
    ∗ inp c woM (inWo m c) ∗ inp c outM (outF m))

theorem body_pre (c : Dev nD) : bodyPre m c ⊢ iprop(∃ Kn, startC m Kn c ∗ scratch (F := F) c ∗ ins m c ∗ (∃ Y : Vec F S2048x1024 .bf16, owns (c : Thread nD τ) outM fullShare Y)
      ∗ (∃ W, owes (c : Thread nD τ) (OL payList c) W)) := by
  unfold bodyPre Φ₀ ins
  simp only [before_0, before_1, before_2, before_3, before_4]
  unfold Dat.owesAt Pipeline.owesWithin
  rw [show (dats m 0 c).owed t₀.castSucc = OL payList c from rfl]
  iintro ⟨⟨⟨%Kn, Hst⟩, Hsc⟩, ⟨%W, %hW, HO⟩, ⟨%d0, H0⟩, ⟨%d1, H1⟩, ⟨%d2, H2⟩, ⟨%d3, H3⟩, ⟨%d4, H4⟩, ⟨%d5, H5⟩⟩
  iexists Kn
  isplitl [Hst]; · iexact Hst
  isplitl [Hsc]; · iexact Hsc
  isplitl [H0 H1 H2 H3 H4]
  · isplitl [H0]; · iexact H0
    isplitl [H1]; · iexact H1
    isplitl [H2]; · iexact H2
    isplitl [H3]; · iexact H3
    iexact H4
  isplitl [H5]; · iexists _; iexact H5
  iexists W; iexact HO

theorem body_post (c : Dev nD) : iprop(ins m c ∗ owns (c : Thread nD τ) outM fullShare (outF m) ∗ scratch (F := F) c ∗ (∃ W, owes (c : Thread nD τ) 0 W)
      ∗ bigSep Finset.univ fun k => semVal (cell c k) 0) ⊢ bodyPost m c := by
  unfold bodyPost Φ₁ ins
  unfold Dat.owesAt Pipeline.owesWithin
  rw [show (dats m 0 c).owed t₀.succ = 0 from rfl]
  iintro ⟨⟨H0, H1, H2, H3, H4⟩, H5, Hsc, ⟨%W, HO⟩, Hz⟩
  isplitl [Hsc Hz]
  · isplitl [Hsc]; · iexact Hsc
    iexact Hz
  isplitl [HO]
  · iexists W; isplitr
    · ipureintro; exact fun _ _ => Or.inl trivial
    · iexact HO
  isplitl [H0]; · iexact H0
  isplitl [H1]; · iexact H1
  isplitl [H2]; · iexact H2
  isplitl [H3]; · iexact H3
  isplitl [H4]; · iexact H4
  iexact H5

theorem run_body' (c : Dev nD) : bodyPre m c
      ⊢ wpc c (cc0_body xM (Memref.isWhole_whole _) wqM (Memref.isWhole_whole _) keM (Memref.isWhole_whole _) veM (Memref.isWhole_whole _)
      woM (Memref.isWhole_whole _) outM (Memref.isWhole_whole _) qM (Memref.isWhole_whole _) ctM (Memref.isWhole_whole _) rsM (Memref.isWhole_whole _)
      cc0_scratch3 cc0_scratch4 cc0_scratch5 cc0_scratch6 cc0_scratch7 cc0_scratch8) (fun _ => bodyPost m c) := by
  iintro H
  ihave H := (body_pre m c) $$ H
  icases H with ⟨%Kn, H⟩
  iapply (((run_body m Kn c).trans (wp_mono _ _ _ fun _ => body_post m c) : _ ⊢ wpc c _ _)) $$ H

set_option maxRecDepth 4000 in
/-- The pipeline's body obligation. -/
theorem body_obligation (c : Dev nD) : BodyObligation (dats (F := F) m 0 c) (defs₀ (F := F)) 𝒱₀ () Set.univ := fun t => by
  rw [fin_N t]
  rw [bigSep_W, bigSep_W]
  exact run_body' m c

/-! ## The launch -/

/-- The cells that are the kernel's own: all but the barrier's. -/
abbrev KO : Type := (Fin 7 ⊕ Fin 7) ⊕ ((Fin 4 ⊕ Fin 4) ⊕ (Fin 4 ⊕ Fin 4))
abbrev osem (k : KO) : SemLoc sig := csem (.inr k)

theorem ownSemFacts : Pipeline.OwnSemFacts cfg0.spec osem := by decide

theorem share_eq (c : Dev nD) (w : Fin cfg0.W) : (dats m 0 c).share w = fullShare := by unfold Dat.share; split <;> rfl

def ringCells : Finset (GSem nD τ sig) := Finset.univ.map ⟨kcell, kcell_injective⟩

abbrev tokAt (ck : Dev nD × K) : GSem nD τ sig × ℕ × Unit := (kcell ck, 0, ())
theorem tokAt_injective : Function.Injective (tokAt : Dev nD × K → GSem nD τ sig × ℕ × Unit) :=
  fun a b h => kcell_injective (congrArg Prod.fst h)
def ringToks : Finset (GSem nD τ sig × ℕ × Unit) := Finset.univ.map ⟨tokAt, tokAt_injective⟩

def u₀ : UU :=
  (initOf (Pipeline.cells cfgs cellOf_inj) (Pipeline.launchToks cfgs cellOf_inj), initOf ringCells ringToks)

/-- What the launch deals a device. -/
def G (c : Dev nD) : sProp 𝕄 :=
  iprop((bigSep Finset.univ fun k : K => roundState ER (ringRd m) (cell c k) 0)
    ∗ (bigSep Finset.univ fun k : K => pos0 (F := F) c k) ∗ (bigSep Finset.univ fun k : K => reached ER (cell c k) 0) ∗ bigSep Finset.univ fun k : K => tok (F := F) c k)

/-- The records without the levels. -/
def recs' (Kn : Dev nD × K → ℕ) : sProp 𝕄 :=
  iprop((bigSep Finset.univ fun ck : Dev nD × K => cellInv ER (ringRd m) (Kn ck) (kcell ck))
    ∗ bigSep Finset.univ fun ck : Dev nD × K => reached ER (kcell ck) 0)
instance recs'_persistent (Kn : Dev nD × K → ℕ) : BI.Persistent (recs' m Kn) := by unfold recs'; infer_instance

/-- What the launch's global step makes of it. -/
def G' (c : Dev nD) : sProp 𝕄 :=
  iprop(∃ Kn, recs' m Kn ∗ (bigSep Finset.univ fun k => pos0 (F := F) c k) ∗ bigSep Finset.univ fun k => tokOf (F := F) c k)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : K => Φ (cell c k) := by
    unfold ringCells; rw [BI.bigSep_map, BI.bigSep_univ_prod]; rfl
  have hT : bigSep ringToks (fun x => (dutyTok ER x.1 x.2.1 x.2.2 : sProp 𝕄)) = bigSep Finset.univ fun c : Dev nD => bigSep Finset.univ fun k : K => tok (F := F) c k := by
    unfold ringToks; rw [BI.bigSep_map, BI.bigSep_univ_prod]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

omit [FloatOps F] [Named F] in
/-- The barrier's semaphore is the launch's one unscoped semaphore. -/
theorem unscopedSems0_eq (c : Dev nD) : (unscopedSems0 c : sProp 𝕄) = semVal (cell c kBar) 0 := by
  unfold unscopedSems0; rw [bigSep_eq_bigSepL_of_eq [SemLoc.reg barrier0] (by decide) (by decide)]; rfl

omit [FloatOps F] [Named F] in
theorem bar_own (Φ : K → sProp 𝕄) : bigSep Finset.univ Φ = iprop(Φ kBar ∗ bigSep Finset.univ fun k : KO => Φ (.inr k)) := by
  refine (BI.bigSep_univ_sum Φ).trans ?_
  exact congr (congrArg _ ((bigSep_univ_eq_bigSepL [()] (by decide) (by decide) _).trans (bigSepL_singleton _ _))) rfl

omit [FloatOps F] [Named F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : K => semVal (cell c k) 0 : sProp 𝕄) := by
  rw [bar_own, unscopedSems0_eq]; unfold Pipeline.ownSems0
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (cell c k)))
          ∗ (bigSep Finset.univ fun k : K => pos0 (F := F) c k) ∗ (bigSep Finset.univ fun k : K => reached ER (cell c k) 0) ∗ bigSep Finset.univ fun k : K => tok (F := F) c k) := by
  unfold G
  iintro ⟨Hos, Hus, Hst, Hat, Hr, Htok⟩
  ihave Hv := (sems0_eq (F := F) c) $$ [Hos Hus]
  · isplitl [Hos] <;> iassumption
  imod (show iprop((bigSep Finset.univ fun k : K => semVal (cell c k) 0) ∗ bigSep Finset.univ fun k : K => roundState ER (ringRd m) (cell c k) 0)
      ⊢ (|={Set.univ}=> bigSep Finset.univ fun k => iprop(∃ κ : ℕ, cellInv ER (ringRd m) κ (cell c k)) : sProp 𝕄) from by
        rw [← bigSep_sep']
        exact (bigSep_mono fun k _ => (Rounds.body_intro ER (ringRd m) (cell c k)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-- The tokens dealt to the devices that pay with them. -/
theorem toks_around : (bigSep Finset.univ fun c : Dev nD => bigSep Finset.univ fun k : K => tok (F := F) c k) ⊢ (bigSep Finset.univ fun c : Dev nD => bigSep Finset.univ fun k : K => tokOf (F := F) c k : sProp 𝕄) := by
  rw [BI.bigSep_univ_comm, BI.bigSep_univ_comm (fun (c : Dev nD) (k : K) => tokOf (F := F) c k)]
  refine bigSep_mono fun k _ => ?_
  rw [BI.bigSep_univ_equiv (rot (sh k)) (fun c : Dev nD => tok (F := F) c k)]
  refine bigSep_mono fun c _ => ?_
  have h : (tok (F := F) (rot (sh k) c) k : sProp 𝕄) ⊢ tokOf (F := F) c k := by
    unfold tokOf
    split
    · rw [payee_eq]; exact BI.Entails.refl _
    · iintro -; iempintro
  exact h

theorem regroup :
    (bigSep Finset.univ fun c : Dev nD => iprop((bigSep Finset.univ fun k => iprop(∃ κ : ℕ, cellInv ER (ringRd m) κ (cell c k)))
          ∗ (bigSep Finset.univ fun k : K => pos0 (F := F) c k) ∗ (bigSep Finset.univ fun k : K => reached ER (cell c k) 0) ∗ bigSep Finset.univ fun k : K => tok (F := F) c k) : sProp 𝕄)
      ⊢ bigSep Finset.univ (G' m) := by
  rw [bigSep_sep', bigSep_sep', bigSep_sep', ← BI.bigSep_univ_prod (fun ck : Dev nD × K => iprop(∃ κ : ℕ, cellInv ER (ringRd m) κ (kcell ck))),
    ← BI.bigSep_univ_prod (fun ck : Dev nD × K => (reached ER (kcell ck) 0 : sProp 𝕄))]
  iintro ⟨HI, Hat, #HR, Htok⟩
  ihave HK := (BI.bigSep_exists_pi Finset.univ (fun (ck : Dev nD × K) (κ : ℕ) => (cellInv ER (ringRd m) κ (kcell ck) : sProp 𝕄))) $$ HI
  icases HK with ⟨%Kn, #HI⟩
  ihave Htk := (toks_around (F := F)) $$ Htok
  iapply (bigSep_with_persistent (R := recs' m Kn) (Φ := fun c => iprop((bigSep Finset.univ fun k => pos0 (F := F) c k) ∗ bigSep Finset.univ fun k => tokOf (F := F) c k)) fun c _ => by
    have h : iprop(recs' m Kn ∗ (bigSep Finset.univ fun k => pos0 (F := F) c k) ∗ bigSep Finset.univ fun k => tokOf (F := F) c k) ⊢ G' m c := by
      unfold G'; iintro H; iexists Kn; iexact H
    exact h)
  isplitr
  · unfold recs'; isplitl; · iexact HI
    iexact HR
  · rw [bigSep_sep']
    isplitl [Hat]; · iexact Hat
    iexact Htk

/-- The launch's global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- What a device owes a cell no payment of the list goes to, -/
theorem owed_out (l : List K) (d c : Dev nD) (k : K) (hk : k ∉ l) : OL l d (cell c k) () = 0 := by
  induction l with
  | nil => rfl
  | cons k' l ih =>
    unfold OL
    rw [Pi.add_apply, Finsupp.add_apply, ih (fun h => hk (List.mem_cons_of_mem _ h)), tallyAt_apply, Nat.zero_add,
      if_neg (fun h : cell c k = dest d k' ∧ () = () => hk ((cell_eq_iff.mp h.1).2 ▸ List.mem_cons_self))]
/-- and one that one payment goes to. -/
theorem owed_in (l : List K) (hl : l.Nodup) (d c : Dev nD) (k : K) (hk : k ∈ l) : OL l d (cell c k) () = if d = up (7 * sh k) c then amtK k else 0 := by
  induction l with
  | nil => cases hk
  | cons k' l ih =>
    have hn := List.nodup_cons.mp hl
    unfold OL
    rw [Pi.add_apply, Finsupp.add_apply, tallyAt_apply]
    by_cases h : k = k'
    · subst h
      rw [owed_out l d c k hn.1, Nat.zero_add]
      by_cases hd : d = up (7 * sh k) c
      · rw [if_pos hd, if_pos ⟨cell_eq_iff.mpr ⟨by rw [hd, up_inv'], rfl⟩, rfl⟩]
      · rw [if_neg hd, if_neg]
        intro h
        exact hd (by rw [(cell_eq_iff.mp h.1).1, up_inv])
    · rw [ih hn.2 ((List.mem_cons.mp hk).resolve_left h), if_neg (c := cell c k = dest d k' ∧ () = ()) (fun h' => h (cell_eq_iff.mp h'.1).2), Nat.add_zero]

theorem pay_nodup : payList.Nodup := by decide
instance memPay (k : K) : Decidable (k ∈ payList) := @List.instDecidableMemOfLawfulBEq K instBEqOfDecidableEq inferInstance k payList
theorem isR_mem : ∀ k : K, isR k = true → k ∈ payList := by decide

theorem launch_at (c : Dev nD) (k : K) (hk : isR k = true) :
    tallyOn (cell c k) (launchCredit (Pipeline.owing (OL payList)) 0 (cell c k)) = (tallyAt (cell c k) () (amtK k) : CellTallies nD τ sig Unit) := by
  unfold tallyAt; refine congrArg _ (Finsupp.ext fun u => ?_); cases u
  rw [Pipeline.launchCredit_owing, Finsupp.single_eq_same, Finset.sum_congr rfl fun d _ => owed_in payList pay_nodup d c k (isR_mem k hk),
    Finset.sum_ite_eq' Finset.univ (up (7 * sh k) c) fun _ => amtK k, if_pos (Finset.mem_univ _)]

/-- The launch credit, cell by cell. -/
theorem creds (c : Dev nD) : (Pipeline.launchCred (OL payList) c : sProp 𝕄) ⊢ bigSep Finset.univ fun k => crdOf (F := F) c k := by
  unfold Pipeline.launchCred
  refine (BI.bigSep_subset (t := Finset.univ.map ⟨csem, fun a b => csem_inj a b⟩) (Finset.subset_univ _)).trans ?_
  rw [BI.bigSep_map]
  refine bigSep_mono fun k _ => ?_
  unfold crdOf
  by_cases hk : isR k = true
  · rw [if_pos hk]
    exact Entails.of_eq (congrArg cred (launch_at c k hk))
  · rw [if_neg hk]
    have h : (cred (tallyOn (cell c k) (launchCredit (Pipeline.owing (OL payList)) 0 (cell c k))) : sProp 𝕄) ⊢ iprop(emp) := by iintro -; iempintro
    exact h

/-! ### The side conditions -/

theorem start_intro (c : Dev nD) :
    iprop(Pipeline.unscopedRestP Pipeline.Prefetch.none cfg0.spec c (fun b => m ((c : Thread nD τ).loc b)) ∗ levAts L lv
        ∗ Pipeline.launchCred (OL payList) c ∗ prngReg c (ρ c) ∗ G' m c)
      ⊢ |={Set.univ}=> iprop((∃ Kn, startC m Kn c) ∗ emp) := by
  iintro ⟨-, Hlev, Hcr, -, HG⟩
  ihave Hc := (creds (F := F) c) $$ Hcr
  unfold G'
  icases HG with ⟨%Kn, HR, Hp, Ht⟩
  imodintro
  isplitl
  · iexists Kn
    unfold startC recs recs'
    icases HR with ⟨HI, Hm⟩
    isplitl [HI Hm Hlev]
    · isplitl [HI]; · iexact HI
      isplitl [Hm]; · iexact Hm
      iexact Hlev
    isplitl [Hp]; · iexact Hp
    isplitl [Ht]; · iexact Ht
    iexact Hc
  · iempintro

theorem scratch_eq (c : Dev nD) : (Pipeline.scopedRest (Ix := Unit) (Name := ℕ) (U := UU) (Lvl := ℕ) (Val := Elt F) cfg0.spec c : sProp 𝕄) ⊢ scratch (F := F) c := by
  rw [scopedRest0_eq]
  unfold scratch scr
  simp only [owns_whole_eq]
  iintro ⟨⟨%f0, H0⟩, ⟨%f1, H1⟩, ⟨%f2, H2⟩⟩
  isplitl [H0 H1]
  · isplitl [H0]
    · iexists f0; iexists f0; isplitr
      · ipureintro; rfl
      · iexact H0
    · iexists f1; iexists f1; isplitr
      · ipureintro; rfl
      · iexact H1
  · iexists f2; iexists f2; isplitr
    · ipureintro; rfl
    · iexact H2
theorem scratch_back (c : Dev nD) : scratch (F := F) c ⊢ (Pipeline.scopedRest (Ix := Unit) (Name := ℕ) (U := UU) (Lvl := ℕ) (Val := Elt F) cfg0.spec c : sProp 𝕄) := by
  rw [scopedRest0_eq]
  unfold scratch scr
  simp only [owns_whole_eq]
  iintro ⟨⟨⟨%X0, %f0, -, H0⟩, ⟨%X1, %f1, -, H1⟩⟩, ⟨%X2, %f2, -, H2⟩⟩
  isplitl [H0]; · iexists f0; iexact H0
  isplitl [H1]; · iexists f1; iexact H1
  iexists f2; iexact H2

theorem phi0_intro (c : Dev nD) :
    iprop((∃ Kn, startC m Kn c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scratch_eq c) $$ Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, unscopedSems0_eq]
  unfold Φ₁ Pipeline.ownSems0
  rw [bar_own]
  iintro ⟨Hr, HB, HO⟩
  isplitl [HB]; · iexact HB
  isplitl [HO]; · iexact HO
  iapply (scratch_back c) $$ Hr

theorem lv_stage (c : Dev nD) (sm : SemLoc sig) (h : ∀ k, csem k ≠ sm) : lv ((c : Thread nD τ), sm) () = 0 := by
  unfold lv kOf
  rw [dif_neg (fun ⟨k, hk⟩ => h k hk)]
theorem waits (c : Dev nD) : (levAts L lv : sProp 𝕄) ⊢ Pipeline.cellsWaits cfgs (dats m) () 0 c :=
  Pipeline.cellsWaits_intro cfgs (dats m) () 0 c fun w s t => by
    have hs : ∀ k, csem k ≠ .dma ((cfg0.win w).sem s) := by fin_cases w <;> fin_cases s <;> decide
    rcases t with ⟨_ | _, ht⟩
    · exact mayWait_sem c _ payList 0 (le_of_eq (lv_stage c _ hs)) (by decide)
    · exact mayWait_sem c _ [] 0 (le_of_eq (lv_stage c _ hs)) (by decide)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters every fair execution of the program on the eight devices ends, with each device's
    arrays at the computed contents and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := OL payList) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := fun c => iprop(∃ Kn, startC m Kn c)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The five argument arrays end as they were. -/
theorem finalA_in (c : Dev nD) (w : Fin 6) (hw : w ≠ 5) : finalA m c w = m ((cfg0.win w).arr.view.loc (c : Thread nD τ)) :=
  (dats m 0 c).arrAt_in w (by revert hw; revert w; decide) _

/-- And the result array ends holding the finished chunks. -/
theorem finalA_out (c : Dev nD) : finalA m c (5 : Fin 6) = outF m := by
  have hz : (fun a => (win0_5.index (0 : Fin 1)) a * main_v1.ty.shape.size a) = fun _ => 0 := funext fun a => by fin_cases a <;> decide
  have hr := fun f => Memref.read_access_unit_zero (Elt F) main_v1 hz (fun a => by fin_cases a <;> decide) f
  have ho : (win0_5.blk (0 : Fin 1)).view.read (Elt F) (finalA m c (5 : Fin 6)) = outF m := by
    unfold finalA
    rw [show cfg0.N = ((0 : Fin 1) : Fin cfg0.N).val + 1 from rfl, (dats m 0 c).arrAt_succ (5 : Fin 6) (0 : Fin 1)]
    rw [show (cfg0.win (5 : Fin 6)).flush (0 : Fin 1) = true from flush0_5 _, if_pos rfl]
    exact View.read_write_univ _ _
  rw [← ho]
  exact (hr _).symm

end Cert.RingProof

end
-- ==== Proof.Frames.lean ====
/- What the run gives before any arithmetic: every argument array and every counter as it was, and the result array at
   the finished chunks; for the program as printed too, whose text is the same with its one constant as a bit pattern. -/
module

public import proofs.«01_k».proof.Proof.Launch
public import proofs.«01_k».proof.Defs
public import proofs.«01_k».proof.Proof.Gen.Kernel

@[expose] public section

noncomputable section

namespace Cert.RingProof

open Idealize.ShloMosaic Idealize.ShloMosaic.TcCoe Idealize.SL.Sem
open Cert.KernelIdeal Cert.KernelIdeal.Gen

section
variable {F : FTy → Type} [FloatOps F] [Named F]

/-- The result array and the five argument arrays after the run, on every device. -/
theorem run_arrays (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c : Thread nD τ).loc main_v1) = outF m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c =>
    ⟨(h.1 c (5 : Fin 6)).trans (finalA_out m c), (h.1 c (0 : Fin 6)).trans (finalA_in m c 0 (by decide)),
      (h.1 c (1 : Fin 6)).trans (finalA_in m c 1 (by decide)), (h.1 c (2 : Fin 6)).trans (finalA_in m c 2 (by decide)),
      (h.1 c (3 : Fin 6)).trans (finalA_in m c 3 (by decide)), (h.1 c (4 : Fin 6)).trans (finalA_in m c 4 (by decide))⟩, h.2⟩)
    (run_main m g)
end

theorem frame_ideal : Cert.quiescent_KernelIdeal := fun m g _ =>
  (θ_run defs _ _).mono (fun _ h => ⟨fun c => (h.1 c).2, h.2⟩) (run_arrays (F := Ideal) m g)

/-- A named constant read on bit patterns is its printed pattern. -/
instance bitsNamed : Named Bits where
  named _ _ {φ} b := Scalar.ofBits φ b

/-- The two programs' bodies are one, -/
theorem body_same : @Cert.Kernel.cc0_body Bits _ _ = @Cert.KernelIdeal.cc0_body Bits _ _ _ := rfl
/-- so are their tables of bodies, -/
theorem table_same : Cert.Kernel.defs₀ (F := Bits) = Cert.KernelIdeal.defs₀ (F := Bits) := by
  unfold Cert.Kernel.defs₀ Cert.KernelIdeal.defs₀
  refine congrArg Defs.onTc (funext fun ℓ => funext fun x => ?_)
  match ℓ, x with
  | 0, (t, s) => rfl
  | ⟨_ + 1, h⟩, _ => exact absurd h (Nat.not_lt.2 (Nat.le_add_left _ _))
/-- and with the pipelines over them. -/
theorem defs_same : Cert.Kernel.defs (F := Bits) = Cert.KernelIdeal.defs (F := Bits) :=
  congrArg (Pipeline.defs (Cert.KernelIdeal.pcfgs (F := Bits))) table_same

theorem frame_kernel : Cert.quiescent_Kernel := fun m g _ => by
  rw [defs_same]
  exact (θ_run Cert.KernelIdeal.defs _ _).mono (fun _ h => ⟨fun c => (h.1 c).2, h.2⟩) (run_arrays (F := Bits) m g)

theorem preserves : Cert.preserves_Kernel_KernelIdeal :=
  IdealRules.named_const.statement Cert.KernelIdeal.κ "mask" .f32 0xCE6E6B28#32 ⊥ rfl

end Cert.RingProof

end
-- ==== Proof.RefFrame.lean ====
/- The reference's frame: its run read at the arguments; it declares no semaphore. -/
module

public import Idealize.ShloMosaic.Lib.Quiescent
public import proofs.«01_k».proof.Defs
public import proofs.«01_k».proof.Proof.Gen.ReferenceIdeal.Run

@[expose] public section

noncomputable section

namespace Cert.RingProof

open Idealize.ShloMosaic Idealize.SL.Sem

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.RingProof

end
-- ==== Proof.Words.lean ====
/- The block mask's words, at an index. -/
module

public import Idealize.ShloMosaic.Lib.Affine
public import Idealize.ShloMosaic.Lib.Pointwise

@[expose] public section

namespace Cert.Words

open Idealize.ShloMosaic

/-- Position `i` attends position `j`: same block, block zero, or block numbers' sum a multiple of three. -/
def keep (i j : ℕ) : Prop := i / 64 = j / 64 ∨ j / 64 = 0 ∨ (i / 64 + j / 64) % 3 = 0

instance (i j : ℕ) : Decidable (keep i j) := by unfold keep; infer_instance

/-- A row always attends the first block. -/
theorem keep_zero (i : ℕ) : keep i 0 := .inr (.inl rfl)

/-- The floor quotient by 64 of a position, as both programs compute it from the quotient toward zero. -/
theorem floor_word (e : Fin 2048) (u : ArithUnit) :
    Scalar.select
      (IntOp.andi
        (IntOp.cmpi CmpIPredicate.ne
          (IntOp.subi (BitVec.setWidth 32 (IntOp.cmpi CmpIPredicate.sgt (BitVec.ofNat 32 e.val) 0#32))
            (BitVec.setWidth 32 (IntOp.cmpi CmpIPredicate.slt (BitVec.ofNat 32 e.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi u (BitVec.ofNat 32 e.val) 64#32) 0#32))
      (IntOp.subi (IntOp.divsi u (BitVec.ofNat 32 e.val) 64#32) 1#32)
      (IntOp.divsi u (BitVec.ofNat 32 e.val) 64#32) = BitVec.ofNat 32 (e.val / 64) := by
  revert e
  cases u <;> decide +kernel

/-- The same where the sign is the host's sign operation. -/
theorem floor_word_host (e : Fin 2048) (u : ArithUnit) :
    Scalar.select
      (IntOp.andi
        (IntOp.cmpi CmpIPredicate.ne (if BitVec.ofNat 32 e.val = 0 then (0 : BitVec 32) else if (BitVec.ofNat 32 e.val).msb = true then -1 else 1)
          (if 64#32 = 0 then (0 : BitVec 32) else if (64#32).msb = true then -1 else 1))
        (IntOp.cmpi CmpIPredicate.ne (IntOp.remsi u (BitVec.ofNat 32 e.val) 64#32) 0#32))
      (IntOp.subi (IntOp.divsi u (BitVec.ofNat 32 e.val) 64#32) 1#32)
      (IntOp.divsi u (BitVec.ofNat 32 e.val) 64#32) = BitVec.ofNat 32 (e.val / 64) := by
  revert e
  cases u <;> decide +kernel

/-- The mask word of block numbers `q` and `b`, the remainder taken toward zero. -/
theorem mask_word (q b : ℕ) (hq : q < 32) (hb : b < 32) (u : ArithUnit) :
    IntOp.ori (IntOp.ori (IntOp.cmpi CmpIPredicate.eq (BitVec.ofNat 32 q) (BitVec.ofNat 32 b)) (IntOp.cmpi CmpIPredicate.eq (BitVec.ofNat 32 b) 0#32))
      (IntOp.cmpi CmpIPredicate.eq (IntOp.remsi u (IntOp.addi (BitVec.ofNat 32 q) (BitVec.ofNat 32 b)) 3#32) 0#32)
      = BitVec.ofBool (decide (q = b ∨ b = 0 ∨ (q + b) % 3 = 0)) := by
  have h : ∀ (q b : Fin 32), IntOp.ori (IntOp.ori (IntOp.cmpi CmpIPredicate.eq (BitVec.ofNat 32 q.val) (BitVec.ofNat 32 b.val)) (IntOp.cmpi CmpIPredicate.eq (BitVec.ofNat 32 b.val) 0#32))
      (IntOp.cmpi CmpIPredicate.eq (IntOp.remsi u (IntOp.addi (BitVec.ofNat 32 q.val) (BitVec.ofNat 32 b.val)) 3#32) 0#32)
      = BitVec.ofBool (decide (q.val = b.val ∨ b.val = 0 ∨ (q.val + b.val) % 3 = 0)) := by
    cases u <;> decide +kernel
  exact h ⟨q, hq⟩ ⟨b, hb⟩

/-- The sign fix-up of the remainder of two block numbers' sum by three changes nothing. -/
theorem rem_word (q b : ℕ) (hq : q < 32) (hb : b < 32) (u : ArithUnit) :
    Scalar.select
      (IntOp.andi
        (IntOp.cmpi CmpIPredicate.ne (IntOp.cmpi CmpIPredicate.slt (IntOp.remsi u (IntOp.addi (BitVec.ofNat 32 q) (BitVec.ofNat 32 b)) 3#32) 0#32)
          (IntOp.cmpi CmpIPredicate.slt 3#32 0#32))
        (IntOp.cmpi CmpIPredicate.ne (IntOp.remsi u (IntOp.addi (BitVec.ofNat 32 q) (BitVec.ofNat 32 b)) 3#32) 0#32))
      (IntOp.addi (IntOp.remsi u (IntOp.addi (BitVec.ofNat 32 q) (BitVec.ofNat 32 b)) 3#32) 3#32)
      (IntOp.remsi u (IntOp.addi (BitVec.ofNat 32 q) (BitVec.ofNat 32 b)) 3#32)
      = IntOp.remsi u (IntOp.addi (BitVec.ofNat 32 q) (BitVec.ofNat 32 b)) 3#32 := by
  have h : ∀ (q b : Fin 32), Scalar.select
      (IntOp.andi
        (IntOp.cmpi CmpIPredicate.ne (IntOp.cmpi CmpIPredicate.slt (IntOp.remsi u (IntOp.addi (BitVec.ofNat 32 q.val) (BitVec.ofNat 32 b.val)) 3#32) 0#32)
          (IntOp.cmpi CmpIPredicate.slt 3#32 0#32))
        (IntOp.cmpi CmpIPredicate.ne (IntOp.remsi u (IntOp.addi (BitVec.ofNat 32 q.val) (BitVec.ofNat 32 b.val)) 3#32) 0#32))
      (IntOp.addi (IntOp.remsi u (IntOp.addi (BitVec.ofNat 32 q.val) (BitVec.ofNat 32 b.val)) 3#32) 3#32)
      (IntOp.remsi u (IntOp.addi (BitVec.ofNat 32 q.val) (BitVec.ofNat 32 b.val)) 3#32)
      = IntOp.remsi u (IntOp.addi (BitVec.ofNat 32 q.val) (BitVec.ofNat 32 b.val)) 3#32 := by
    cases u <;> decide +kernel
  exact h ⟨q, hq⟩ ⟨b, hb⟩

/-- A select on a decided bit. -/
theorem select_ofBool {α : Type} (p : Prop) [Decidable p] (a b : α) : Scalar.select (BitVec.ofBool (decide p)) a b = if p then a else b := by
  by_cases h : p <;> simp [h, Scalar.select]

/-! ## The float constants -/

/-- The scale of the scores is a real. -/
theorem scale_word : ∃ c : ℝ, Ideal.ofBits .f32 0x3DB504F3#32 = (c : EReal) := by
  simp only [Ideal.ofBits, Ideal.ieee]
  split
  · rename_i h; exact absurd h (by decide)
  · split <;> exact ⟨_, rfl⟩

/-- The masked score's pattern is minus infinity. -/
theorem bot_word : Ideal.ofBits .f32 0xFF800000#32 = ⊥ := by
  simp [Ideal.ofBits, Ideal.ieee]

/-- The pattern the precondition compares absolute values with is infinity. -/
theorem top_word : Ideal.ofBits .bf16 0x7F80#16 = ⊤ := by
  simp [Ideal.ofBits, Ideal.ieee]

end Cert.Words
-- ==== Proof.Softmax.lean ====
/- The mathematics of one row of attention over the extended reals: scaling the queries or the scores, an additive mask or a
   selecting one, subtracting the row's maximum or not, dividing before or after the sum over the values. -/
module

public import Idealize.ShloMosaic.PureOps.Ideal

@[expose] public section

noncomputable section

namespace Cert.Softmax

open Idealize.ShloMosaic

/-- Neither infinity. -/
def IsFin (a : EReal) : Prop := a ≠ ⊥ ∧ a ≠ ⊤

theorem IsFin.real {a : EReal} (h : IsFin a) : a = ((a.toReal : ℝ) : EReal) := (EReal.coe_toReal h.2 h.1).symm

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite factor at or above zero multiplies a sum term by term, whatever the terms. -/
theorem sum_mul_nonneg {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- One score, the scale on the query or on the product: the same real. -/
theorem score {n p : ℕ} (x : Fin n → EReal) (w : Fin n → Fin p → EReal) (k : Fin p → EReal) (c : ℝ)
    (hx : ∀ a, IsFin (x a)) (hw : ∀ a d, IsFin (w a d)) (hk : ∀ d, IsFin (k d)) :
    ∃ r : ℝ, ∑ d, ((∑ a, x a * w a d) * (c : EReal)) * k d = (r : EReal) ∧ (∑ d, (∑ a, x a * w a d) * k d) * (c : EReal) = (r : EReal) := by
  have e : ∀ d, ∑ a, x a * w a d = ((∑ a, (x a).toReal * (w a d).toReal : ℝ) : EReal) := fun d => by
    rw [coe_sum]
    refine Finset.sum_congr rfl fun a _ => ?_
    rw [EReal.coe_mul, ← (hx a).real, ← (hw a d).real]
  refine ⟨∑ d, ((∑ a, (x a).toReal * (w a d).toReal) * c) * (k d).toReal, ?_, ?_⟩
  · rw [coe_sum]
    refine Finset.sum_congr rfl fun d _ => ?_
    rw [e, EReal.coe_mul, EReal.coe_mul, ← (hk d).real]
  · have : ∑ d, (∑ a, x a * w a d) * k d = ((∑ d, (∑ a, (x a).toReal * (w a d).toReal) * (k d).toReal : ℝ) : EReal) := by
      rw [coe_sum]
      refine Finset.sum_congr rfl fun d _ => ?_
      rw [e, EReal.coe_mul, ← (hk d).real]
    rw [this, ← EReal.coe_mul, Finset.sum_mul]
    congr 1
    refine Finset.sum_congr rfl fun d _ => ?_
    ring

variable {n : ℕ} (s : Fin n → ℝ) (P : Fin n → Prop) [DecidablePred P]

/-- The weight of a key before normalising: zero where the row does not attend it. -/
def wt (j : Fin n) : ℝ := if P j then Real.exp (s j) else 0

theorem wt_nonneg (j : Fin n) : 0 ≤ wt s P j := by
  unfold wt; split
  · exact (Real.exp_pos _).le
  · exact le_rfl

theorem wt_sum_pos {j₀ : Fin n} (h : P j₀) : 0 < ∑ j, wt s P j :=
  Finset.sum_pos' (fun j _ => wt_nonneg s P j) ⟨j₀, Finset.mem_univ _, by unfold wt; rw [if_pos h]; exact Real.exp_pos _⟩

/-- With the mask added. -/
theorem exp_add (j : Fin n) : Ideal.exp ((s j : EReal) + if P j then 0 else ⊥) = (wt s P j : EReal) := by
  unfold wt; split
  · rw [add_zero]; rfl
  · rw [EReal.add_bot]; rfl

/-- The masked score, selected. -/
def ms (j : Fin n) : EReal := if P j then (s j : EReal) else ⊥

/-- The row's maximum is a real. -/
theorem max_real {j₀ : Fin n} (h : P j₀) : ∃ μ : ℝ, Finset.univ.fold max (⊥ : EReal) (ms s P) = (μ : EReal) := by
  have hlo : (s j₀ : EReal) ≤ Finset.univ.fold max (⊥ : EReal) (ms s P) :=
    (Finset.le_fold_max _).mpr (.inr ⟨j₀, Finset.mem_univ _, by unfold ms; rw [if_pos h]⟩)
  have hhi : Finset.univ.fold max (⊥ : EReal) (ms s P) < ⊤ :=
    (Finset.fold_max_lt _).mpr ⟨bot_lt_top, fun j _ => by
      unfold ms; split
      · exact EReal.coe_lt_top _
      · exact bot_lt_top⟩
  have hb : Finset.univ.fold max (⊥ : EReal) (ms s P) ≠ ⊥ := fun e => by
    rw [e] at hlo; exact absurd (le_bot_iff.mp hlo) (EReal.coe_ne_bot _)
  exact ⟨_, (EReal.coe_toReal hhi.ne hb).symm⟩

/-- With the maximum subtracted every weight is scaled by one positive factor. -/
theorem exp_sub (μ : ℝ) (j : Fin n) : Ideal.exp (ms s P j - (μ : EReal)) = ((wt s P j * Real.exp (-μ) : ℝ) : EReal) := by
  unfold ms wt; split
  · rw [← EReal.coe_sub, Ideal.exp_coe, sub_eq_add_neg, Real.exp_add]
  · rw [EReal.bot_sub, zero_mul]; rfl

/-- One element of the context, the two ways. -/
theorem context (v : Fin n → EReal) {j₀ : Fin n} (h : P j₀) :
    Ideal.div (∑ j, Ideal.exp ((s j : EReal) + if P j then 0 else ⊥) * v j) (∑ j, Ideal.exp ((s j : EReal) + if P j then 0 else ⊥))
      = ∑ j, v j * Ideal.div (Ideal.exp (ms s P j - Finset.univ.fold max (⊥ : EReal) (ms s P)))
          (∑ j, Ideal.exp (ms s P j - Finset.univ.fold max (⊥ : EReal) (ms s P))) := by
  obtain ⟨μ, hμ⟩ := max_real s P h
  have hA := wt_sum_pos s P h
  have hA' : 0 < ∑ j, wt s P j * Real.exp (-μ) := by rw [← Finset.sum_mul]; exact mul_pos hA (Real.exp_pos _)
  simp only [hμ, exp_add, exp_sub]
  rw [← coe_sum, ← coe_sum, Ideal.div_coe hA.ne', sum_mul_nonneg _ _ (one_div_pos.mpr hA).le]
  refine Finset.sum_congr rfl fun j _ => ?_
  rw [Ideal.div_coe hA'.ne', mul_comm (wt s P j : EReal) (v j), mul_assoc, ← EReal.coe_mul, ← EReal.coe_mul, ← Finset.sum_mul]
  congr 2
  have := (Real.exp_pos (-μ)).ne'
  field_simp

end Cert.Softmax

end
-- ==== Proof.KernelValue.lean ====
/- The kernel's result at an index, over the extended reals. -/
module

public import Idealize.ShloMosaic.Lib.Pointwise
public import Idealize.ShloMosaic.PureOps.IdealRules
public import proofs.«01_k».proof.Proof.Gather
public import proofs.«01_k».proof.Proof.Words
public import proofs.«01_k».proof.Proof.Softmax

@[expose] public section

noncomputable section

namespace Cert.RingProof

open Cert.KernelIdeal Cert.KernelIdeal.Gen Idealize.ShloMosaic Idealize.ShloMosaic.TcCoe Idealize.SL.Sem Cert.Words Cert.Softmax

set_option maxRecDepth 16384

variable (m : (ℓ : Loc nD τ sig) → Buf (Elt Ideal) ℓ)

/-- The named mask constant is minus infinity. -/
theorem mask_named : (Named.named (F := Ideal) (φ := .f32) κ "mask" 3463342888#32) = (⊥ : EReal) :=
  IdealRules.named_const.ideal_named_scalar _ _ _ _ rfl

/-- The block number of row `r` of a trip's chunk. -/
theorem row_word (c : Dev nD) (t : Fin k0_t1_loop.trips) (r : ℕ) (hr : r < 4) :
    IntOp.addi (Scalar.muli 4#32 (Scalar.remsi (Scalar.subi (Scalar.addi (word2 c) 8#32) (Scf.iv 0#32 1#32 t.val)) 8#32)) (BitVec.ofNat 32 r)
      = BitVec.ofNat 32 (4 * (chunk c t).val + r) := by
  have h : ∀ (c : Fin 8) (t : Fin 8) (r : Fin 4),
      IntOp.addi (Scalar.muli 4#32 (Scalar.remsi (Scalar.subi (Scalar.addi (Scalar.remsi (Scalar.divsi (BitVec.ofNat 32 c.val) 1#32) 8#32) 8#32) (Scf.iv 0#32 1#32 t.val)) 8#32)) (BitVec.ofNat 32 r.val)
      = BitVec.ofNat 32 (4 * ((c.val + (8 - t.val)) % 8) + r.val) := by decide +kernel
  exact h c ⟨t.val, by have := t.isLt; have := trips_eq; omega⟩ ⟨r, hr⟩

/-- The additive mask: zero where the row attends the key, minus infinity elsewhere. -/
theorem bias_at (c : Dev nD) (t : Fin k0_t1_loop.trips) (r : Fin 256) (j : Fin 2048) :
    biasOf (F := Ideal) c t (ix2 r j) = if keep (256 * (chunk c t).val + r.val) j.val then (0 : EReal) else ⊥ := by
  have hc : (chunk c t).val < 8 := (chunk c t).isLt
  unfold biasOf
  pointwise [k0_pay6, k0_pay2, k0_pay3, k0_pay4, k0_pay5]
  rw [floor_word j .vector, row_word c t _ (by omega), mask_word _ _ (by omega) (by omega), select_ofBool, mask_named]
  have e : (256 * (chunk c t).val + r.val) / 64 = 4 * (chunk c t).val + r.val / 64 := by omega
  exact if_congr (by unfold keep; rw [e]) rfl rfl

/-- Row `r` of chunk `k`. -/
abbrev grow (k : Dev nD) (r : Fin 256) : Fin 2048 := ⟨256 * k.val + r.val, by have : k.val < 8 := k.isLt; omega⟩
/-- Column `d` of the device's head `h`. -/
abbrev lcol (h : Fin 8) (d : Fin 128) : Fin 1024 := ⟨128 * h.val + d.val, by omega⟩

theorem row_emb (k : Dev nD) (r : Fin 256) (a : Fin 1024) : (rowR k).emb (ix2 r a) = ix2 (grow k r) a := by
  funext b
  refine Fin.ext ?_
  rw [Rect.emb_apply]
  match b with
  | ⟨0, _⟩ => simp
  | ⟨1, _⟩ => simp
theorem blk_emb (h : Fin 8) (r : Fin 256) (d : Fin 128) : (blkR h).emb (ix2 r d) = ix2 r (lcol h d) := by
  funext b
  refine Fin.ext ?_
  rw [Rect.emb_apply]
  match b with
  | ⟨0, _⟩ => simp
  | ⟨1, _⟩ => simp
theorem col_emb (h : Fin 8) (j : Fin 2048) (d : Fin 128) : (colR h).emb (ix2 j d) = ix2 j (lcol h d) := by
  funext b
  refine Fin.ext ?_
  rw [Rect.emb_apply]
  match b with
  | ⟨0, _⟩ => simp
  | ⟨1, _⟩ => simp

/-- A projected, scaled query. -/
theorem q_at (c : Dev nD) (t : Fin k0_t1_loop.trips) (r : Fin 256) (e : Fin 1024) :
    qOf m c t (ix2 r e) = (∑ a : Fin 1024, inX m c (ix2 (grow (chunk c t) r) a) * inWq m c (ix2 a e)) * Ideal.ofBits .f32 0x3DB504F3#32 := by
  unfold qOf
  pointwise [k0_pay1]
  simp only [row_emb]

theorem pay8_at (a : FVec Ideal S256x2048 .f32) (q : Vec Ideal S256x128 .bf16) (k v : Vec Ideal S2048x128 .bf16) (r : Fin 256) (d : Fin 128) :
    k0_pay8 (F := Ideal) a q k v (ix2 r d)
      = Ideal.div (∑ j : Fin 2048, Ideal.exp ((∑ e : Fin 128, q (ix2 r e) * k (ix2 j e)) + a (ix2 r j)) * v (ix2 j d))
          (∑ j : Fin 2048, Ideal.exp ((∑ e : Fin 128, q (ix2 r e) * k (ix2 j e)) + a (ix2 r j))) := by
  pointwise [k0_pay8]

/-- The context in terms of the reals the scores are. -/
theorem head_at (c : Dev nD) (t : Fin k0_t1_loop.trips) (h : Fin 8) (r : Fin 256) (d : Fin 128) (s : Fin 2048 → ℝ)
    (hs : ∀ j, ∑ e : Fin 128, ((∑ a : Fin 1024, inX m c (ix2 (grow (chunk c t) r) a) * inWq m c (ix2 a (lcol h e))) * Ideal.ofBits .f32 0x3DB504F3#32) * inK m c (ix2 j (lcol h e)) = (s j : EReal)) :
    headOf m c t h (ix2 r d)
      = Ideal.div (∑ j : Fin 2048, Ideal.exp ((s j : EReal) + if keep (grow (chunk c t) r).val j.val then 0 else ⊥) * inV m c (ix2 j (lcol h d)))
          (∑ j : Fin 2048, Ideal.exp ((s j : EReal) + if keep (grow (chunk c t) r).val j.val then 0 else ⊥)) := by
  unfold headOf
  rw [pay8_at]
  simp only [blk_emb, col_emb, q_at, bias_at, hs]

theorem ctx_at (c : Dev nD) (t : Fin k0_t1_loop.trips) (h : Fin 8) (r : Fin 256) (d : Fin 128) :
    ctxOf m c t (ix2 r (lcol h d)) = headOf m c t h (ix2 r d) := by
  have e : hdOf (ix2 r (lcol h d)) = h := Fin.ext (by show (128 * h.val + d.val) / 128 = h.val; omega)
  have e' : hdIx (ix2 r (lcol h d)) = ix2 r d := by
    funext b
    refine Fin.ext ?_
    match b with
    | ⟨0, _⟩ => rfl
    | ⟨1, _⟩ => show (128 * h.val + d.val) % 128 = d.val; omega
  show headOf m c t (hdOf (ix2 r (lcol h d))) (hdIx (ix2 r (lcol h d))) = _
  rw [e, e']

theorem part_at (c : Dev nD) (t : Fin k0_t1_loop.trips) (r : Fin 256) (n : Fin 1024) :
    part m c t (ix2 r n) = ∑ e : Fin 1024, ctxOf m c t (ix2 r e) * inWo m c (ix2 e n) := by
  unfold part
  pointwise [k0_pay15]

theorem acc_zero_at (c : Dev nD) (r : Fin 256) (n : Fin 1024) : acc m 0 c (ix2 r n) = part m c (tr 0) (ix2 r n) := rfl
theorem acc_succ_at (s : ℕ) (c : Dev nD) (r : Fin 256) (n : Fin 1024) :
    acc m (s + 1) c (ix2 r n) = part m c (tr (s + 1)) (ix2 r n) + acc m s (prv c) (ix2 r n) := by
  show k0_pay16 (F := Ideal) (part m c (tr (s + 1))) (unsq (acc m s (prv c))) (ix2 r n) = _
  generalize acc m s (prv c) = X
  generalize part m c (tr (s + 1)) = Y
  show shapeCast S256x1024 Y shapeCasts_S256x1024_S256x1024 (ix2 r n) + X ((Shape.reshapeEquiv _).symm (Shape.reshapeEquiv _ (ix2 r n))) = _
  rw [Equiv.symm_apply_apply]
  pointwise

end Cert.RingProof

end
-- ==== Proof.RefTerm.lean ====
/- The reference's result term, cut into named steps: block mask, masked scores, row maximum, weights, context, projection. -/
module

public import Idealize.ShloMosaic.Lib.Pointwise
public import proofs.«01_k».proof.Proof.Gen.ReferenceIdeal.Run

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The block number of a position: the floor quotient by 64. -/
def blkR : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))

/-- The query's block number at every pair of positions. -/
def qbR : IVec S2048x2048 32 :=
  broadcastInDim S2048x2048 ![0, 1] bcast_S2048x1_S2048x2048_0_1 (broadcastInDim S2048x1 ![0] bcast_S2048_S2048x1_0 blkR)
/-- The key's block numbers, as one row. -/
def kbRow : IVec S1x2048 32 := broadcastInDim S1x2048 ![1] bcast_S2048_S1x2048_1 blkR
/-- The key's block number at every pair of positions. -/
def kbR : IVec S2048x2048 32 := broadcastInDim S2048x2048 ![0, 1] bcast_S1x2048_S2048x2048_0_1 kbRow
/-- The divisor of the remainder, guarded against zero. -/
def threeR : IVec S_ 32 :=
  select (cmpi .eq (id (constantI S_ 32 3#32)) (constantI S_ 32 0#32)) (constantI S_ 32 1#32) (id (constantI S_ 32 3#32))
def threes : IVec S2048x2048 32 := broadcastInDim S2048x2048 ![] bcast_S_S2048x2048 threeR
def zeros : IVec S2048x2048 32 := broadcastInDim S2048x2048 ![] bcast_S_S2048x2048 (constantI S_ 32 0#32)
/-- The remainder of the block numbers' sum, its sign the divisor's. -/
def remR : IVec S2048x2048 32 :=
  select (andi (cmpi .ne (cmpi .slt (Host.remsi (addi qbR kbR) threes) zeros) (broadcastInDim S2048x2048 ![] bcast_S_S2048x2048 (cmpi .slt threeR (constantI S_ 32 0#32)))) (cmpi .ne (Host.remsi (addi qbR kbR) threes) zeros)) (addi (Host.remsi (addi qbR kbR) threes) threes) (Host.remsi (addi qbR kbR) threes)
/-- Which pairs of positions attend. -/
def mskR : IVec S2048x2048 1 :=
  ori (ori (cmpi .eq qbR kbR) (broadcastInDim S2048x2048 ![0, 1] bcast_S1x2048_S2048x2048_0_1 (cmpi .eq kbRow (broadcastInDim S1x2048 ![] bcast_S_S1x2048 (constantI S_ 32 0#32))))) (cmpi .eq remR zeros)
/-- Which rows attend anywhere. -/
def rowKeep : IVec S2048 1 := Host.reduce IntOp.ori mskR (constantI S_ 1 0#1) reducesTo_S2048x2048_S2048_d1 h_S_

variable (x : FVec F S2048x1024 .bf16) (wq : FVec F S1024x8192 .bf16) (k v : FVec F S2048x8192 .bf16) (wo : FVec F S8192x1024 .bf16)

/-- The projected queries. -/
def qR : FVec F S2048x8192 .bf16 :=
  truncf .bf16 (Host.dotGeneral dot_S2048x1024_S1024x8192_S2048x8192_1_0_0_1_n_n none x wq) bitsLt_bf16_f32
/-- The masked scores, head by head. -/
def scR : FVec F S64x2048x2048 .f32 :=
  select (broadcastInDim S64x2048x2048 ![0, 1, 2] bcast_S1x2048x2048_S64x2048x2048_0_1_2 (broadcastInDim S1x2048x2048 ![1, 2] bcast_S2048x2048_S1x2048x2048_1_2 mskR))
    (mulf (extf .f32 (truncf .bf16 (Host.dotGeneral dot_S2048x64x128_S2048x64x128_S64x2048x2048_2_2_0_0_1_1 none (shapeCast _ (qR x wq) shapeCasts_S2048x8192_S2048x64x128) (shapeCast _ k shapeCasts_S2048x8192_S2048x64x128)) bitsLt_bf16_f32) bitsLt_bf16_f32) (broadcastInDim S64x2048x2048 ![] bcast_S_S64x2048x2048 (constant S_ .f32 0x3DB504F3#32)))
    (broadcastInDim S64x2048x2048 ![] bcast_S_S64x2048x2048 (id (constant S_ .f32 0xFF800000#32)))
/-- The rows' maxima. -/
def mxR : FVec F S64x2048 .f32 :=
  Host.reduce FloatOps.maximumf (scR x wq k) (constant S_ .f32 0xFF800000#32) reducesTo_S64x2048x2048_S64x2048_d2 h_S_
/-- The unnormalised weights. -/
def exR : FVec F S64x2048x2048 .f32 :=
  Host.exp (subf (scR x wq k) (broadcastInDim S64x2048x2048 ![0, 1, 2] bcast_S64x2048x1_S64x2048x2048_0_1_2 (broadcastInDim S64x2048x1 ![0, 1] bcast_S64x2048_S64x2048x1_0_1 (mxR x wq k))))
/-- The rows' sums of weights, one where a row attends nowhere. -/
def smR : FVec F S64x2048x1 .f32 :=
  select (broadcastInDim S64x2048x1 ![0, 1, 2] bcast_S1x2048x1_S64x2048x1_0_1_2 (broadcastInDim S1x2048x1 ![1] bcast_S2048_S1x2048x1_1 rowKeep))
    (broadcastInDim S64x2048x1 ![0, 1] bcast_S64x2048_S64x2048x1_0_1 (Host.reduceAdd (exR x wq k) (constant S_ .f32 0x00000000#32) reducesTo_S64x2048x2048_S64x2048_d2 h_S_))
    (broadcastInDim S64x2048x1 ![] bcast_S_S64x2048x1 (id (constant S_ .f32 0x3F800000#32)))
/-- The weights. -/
def wR : FVec F S64x2048x2048 .f32 :=
  select (broadcastInDim S64x2048x2048 ![0, 1, 2] bcast_S1x2048x1_S64x2048x2048_0_1_2 (broadcastInDim S1x2048x1 ![1] bcast_S2048_S1x2048x1_1 rowKeep))
    (Host.divf (exR x wq k) (broadcastInDim S64x2048x2048 ![0, 1, 2] bcast_S64x2048x1_S64x2048x2048_0_1_2 (smR x wq k)))
    (broadcastInDim S64x2048x2048 ![] bcast_S_S64x2048x2048 (id (constant S_ .f32 0x00000000#32)))
/-- The context, heads side by side. -/
def ctxR : FVec F S2048x8192 .f32 :=
  shapeCast _ (transpose S2048x64x128 [2, 0, 1] (Host.dotGeneral dot_S2048x64x128_S64x2048x2048_S64x128x2048_0_2_2_1_1_0 none (extf .f32 (shapeCast S2048x64x128 v shapeCasts_S2048x8192_S2048x64x128) bitsLt_bf16_f32) (wR x wq k)) transposes_S64x128x2048_S2048x64x128_2_0_1) shapeCasts_S2048x64x128_S2048x8192
/-- The result. -/
def outR : FVec F S2048x1024 .bf16 :=
  truncf .bf16 (Host.dotGeneral dot_S2048x8192_S8192x1024_S2048x1024_1_0_0_1_n_n none (ctxR x wq k v) (extf .f32 wo bitsLt_bf16_f32)) bitsLt_bf16_f32

set_option maxRecDepth 8192 in
/-- The run's result is `outR` of the arguments. -/
theorem res_eq (m : (ℓ : Loc nD τ sig) → Buf (Elt F) ℓ) (c : Dev nD) :
    res_main_v52 m c = outR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.ReferenceIdeal.Value

end
-- ==== Proof.RefValue.lean ====
/- The reference's result at an index, over the extended reals. -/
module

public import Idealize.ShloMosaic.Lib.Pointwise
public import proofs.«01_k».proof.Proof.RefTerm
public import proofs.«01_k».proof.Proof.Words
public import proofs.«01_k».proof.Proof.Softmax

@[expose] public section

noncomputable section

namespace Cert.ReferenceIdeal.Value

open Cert.ReferenceIdeal Cert.ReferenceIdeal.Gen Idealize.ShloMosaic Cert.Words Cert.Softmax

set_option maxRecDepth 16384

/-- A position's block number. -/
theorem blkR_at (e : Fin 2048) : blkR (ix1 e) = BitVec.ofNat 32 (e.val / 64) := by
  pointwise [blkR]
  exact floor_word_host e .host

/-- The block mask. -/
theorem mskR_at (i j : Fin 2048) : mskR (ix2 i j) = BitVec.ofBool (decide (keep i.val j.val)) := by
  have hi : i.val / 64 < 32 := by omega
  have hj : j.val / 64 < 32 := by omega
  pointwise [mskR, qbR, kbRow, kbR, remR, threes, threeR, zeros]
  rw [blkR_at, blkR_at]
  have h3 : Scalar.select (IntOp.cmpi CmpIPredicate.eq (id (constantI S_ 32 3#32) ix0) 0#32) (1#32) (id (constantI S_ 32 3#32) ix0) = 3#32 := by decide
  rw [h3, rem_word _ _ hi hj, mask_word _ _ hi hj]
  rfl

/-- Every row attends somewhere. -/
theorem rowKeep_at (i : Fin 2048) : rowKeep (ix1 i) = 1#1 := by
  pointwise [rowKeep]
  have h : ∀ (s : Finset (Fin 2048)), (0 : Fin 2048) ∈ s → s.fold IntOp.ori (0#1) (fun x => mskR (ix2 i x)) = 1#1 := fun s hs => by
    rw [← Finset.insert_erase hs, Finset.fold_insert (Finset.notMem_erase _ _), mskR_at]
    rw [show decide (keep i.val (0 : Fin 2048).val) = true from decide_eq_true (keep_zero i.val)]
    have key : ∀ y : BitVec 1, IntOp.ori (BitVec.ofBool true) y = 1#1 := by decide
    exact key _
  exact h _ (Finset.mem_univ _)

variable (x : FVec Ideal S2048x1024 .bf16) (wq : FVec Ideal S1024x8192 .bf16) (k v : FVec Ideal S2048x8192 .bf16) (wo : FVec Ideal S8192x1024 .bf16)

/-- Column `d` of head `h`. -/
abbrev hcol (h : Fin 64) (d : Fin 128) : Fin 8192 := ⟨h.val * 128 + d.val, by omega⟩

/-- The masked score. -/
theorem scR_at (h : Fin 64) (i j : Fin 2048) :
    scR (F := Ideal) x wq k (ix3 h i j) = if keep i.val j.val then
      (∑ d : Fin 128, (∑ a : Fin 1024, x (ix2 i a) * wq (ix2 a (hcol h d))) * k (ix2 j (hcol h d))) * Ideal.ofBits .f32 0x3DB504F3#32 else ⊥ := by
  pointwise [scR, qR]
  rw [mskR_at, select_ofBool]
  show (if _ then _ else Ideal.ofBits .f32 0xFF800000#32) = _
  rw [bot_word]

theorem mxR_at (h : Fin 64) (i : Fin 2048) :
    mxR (F := Ideal) x wq k (ix2 h i) = Finset.univ.fold max (⊥ : EReal) (fun j : Fin 2048 => scR (F := Ideal) x wq k (ix3 h i j)) := by
  pointwise [mxR]
  exact congrArg (fun b => Finset.fold max b _ _) bot_word

theorem exp_read (e : FVec Ideal S64x2048x2048 .f32) (s : FVec Ideal S64x2048 .f32) (h : Fin 64) (i j : Fin 2048) :
    Host.exp (subf e (broadcastInDim S64x2048x2048 ![0, 1, 2] bcast_S64x2048x1_S64x2048x2048_0_1_2 (broadcastInDim S64x2048x1 ![0, 1] bcast_S64x2048_S64x2048x1_0_1 s))) (ix3 h i j)
      = Ideal.exp (e (ix3 h i j) - s (ix2 h i)) := by
  pointwise

theorem exR_at (h : Fin 64) (i j : Fin 2048) :
    exR (F := Ideal) x wq k (ix3 h i j) = Ideal.exp (scR (F := Ideal) x wq k (ix3 h i j) - mxR (F := Ideal) x wq k (ix2 h i)) := by
  rw [exR, exp_read]

theorem smR_at (h : Fin 64) (i : Fin 2048) :
    smR (F := Ideal) x wq k (ix3 h i 0) = ∑ j : Fin 2048, exR (F := Ideal) x wq k (ix3 h i j) := by
  pointwise [smR]
  rw [rowKeep_at]; rfl

theorem weight_read (kp : IVec S2048 1) (e : FVec Ideal S64x2048x2048 .f32) (s : FVec Ideal S64x2048x1 .f32) (z : FVec Ideal S_ .f32) (h : Fin 64) (i j : Fin 2048) :
    select (broadcastInDim S64x2048x2048 ![0, 1, 2] bcast_S1x2048x1_S64x2048x2048_0_1_2 (broadcastInDim S1x2048x1 ![1] bcast_S2048_S1x2048x1_1 kp))
      (Host.divf e (broadcastInDim S64x2048x2048 ![0, 1, 2] bcast_S64x2048x1_S64x2048x2048_0_1_2 s))
      (broadcastInDim S64x2048x2048 ![] bcast_S_S64x2048x2048 z) (ix3 h i j)
      = Scalar.select (kp (ix1 i)) (Ideal.div (e (ix3 h i j)) (s (ix3 h i 0))) (z ix0) := by
  pointwise

theorem wR_at (h : Fin 64) (i j : Fin 2048) :
    wR (F := Ideal) x wq k (ix3 h i j) = Ideal.div (exR (F := Ideal) x wq k (ix3 h i j)) (∑ j' : Fin 2048, exR (F := Ideal) x wq k (ix3 h i j')) := by
  rw [wR, weight_read, rowKeep_at, smR_at]; rfl

/-- The context before the output projection. -/
theorem ctxR_at (i : Fin 2048) (h : Fin 64) (d : Fin 128) :
    ctxR (F := Ideal) x wq k v (ix2 i (hcol h d)) = ∑ j : Fin 2048, v (ix2 j (hcol h d)) * wR (F := Ideal) x wq k (ix3 h i j) := by
  pointwise [ctxR]
  have e : ∀ p, (⟨(h.val * 128 + d.val) / 128, p⟩ : Fin 64) = h := fun p => Fin.ext (by show (h.val * 128 + d.val) / 128 = h.val; omega)
  have e' : ∀ p, (⟨(h.val * 128 + d.val) / 128 * 128 + (h.val * 128 + d.val) % 128, p⟩ : Fin 8192) = hcol h d := fun p =>
    Fin.ext (by show (h.val * 128 + d.val) / 128 * 128 + (h.val * 128 + d.val) % 128 = h.val * 128 + d.val; omega)
  simp only [e, e']

theorem outR_at (i : Fin 2048) (n : Fin 1024) :
    outR (F := Ideal) x wq k v wo (ix2 i n) = ∑ e : Fin 8192, ctxR (F := Ideal) x wq k v (ix2 i e) * wo (ix2 e n) := by
  pointwise [outR]

/-- The context in terms of the reals the scores are. -/
theorem ctxR_real (i : Fin 2048) (h : Fin 64) (d : Fin 128) (s : Fin 2048 → ℝ)
    (hs : ∀ j, (∑ d : Fin 128, (∑ a : Fin 1024, x (ix2 i a) * wq (ix2 a (hcol h d))) * k (ix2 j (hcol h d))) * Ideal.ofBits .f32 0x3DB504F3#32 = (s j : EReal)) :
    ctxR (F := Ideal) x wq k v (ix2 i (hcol h d))
      = ∑ j : Fin 2048, v (ix2 j (hcol h d)) * Ideal.div (Ideal.exp (ms s (fun j => keep i.val j.val) j - Finset.univ.fold max (⊥ : EReal) (ms s fun j => keep i.val j.val)))
          (∑ j, Ideal.exp (ms s (fun j => keep i.val j.val) j - Finset.univ.fold max (⊥ : EReal) (ms s fun j => keep i.val j.val))) := by
  have e : ∀ j, scR (F := Ideal) x wq k (ix3 h i j) = ms s (fun j => keep i.val j.val) j := fun j => by rw [scR_at, hs]; rfl
  rw [ctxR_at]
  simp only [wR_at, exR_at, mxR_at, e]

end Cert.ReferenceIdeal.Value

end
-- ==== Proof.Value.lean ====
/- The kernel's result is the reference's, over the extended reals, where the inputs to the scores are finite. -/
module

public import Idealize.ShloMosaic.Lib.ReduceAll
public import proofs.«01_k».proof.Defs
public import proofs.«01_k».proof.Proof.KernelValue
public import proofs.«01_k».proof.Proof.RefValue

@[expose] public section

noncomputable section

namespace Cert.RingProof

open Cert.KernelIdeal Cert.KernelIdeal.Gen Idealize.ShloMosaic Idealize.ShloMosaic.TcCoe Idealize.SL.Sem Cert.Words Cert.Softmax
open Cert.ReferenceIdeal.Value (ctxR outR hcol ctxR_real outR_at)

set_option maxRecDepth 16384

variable (m : (ℓ : Loc nD τ sig) → Buf (Elt Ideal) ℓ)
  (X : FVec Ideal ⟨2, ![2048, 1024]⟩ .bf16) (WQ : FVec Ideal ⟨2, ![1024, 8192]⟩ .bf16) (KK VV : FVec Ideal ⟨2, ![2048, 8192]⟩ .bf16) (WO : FVec Ideal ⟨2, ![8192, 1024]⟩ .bf16)

/-- Column `e` of device `c`'s share of 8192. -/
abbrev gcol (c : Dev nD) (e : Fin 1024) : Fin 8192 := ⟨1024 * c.val + e.val, by have : c.val < 8 := c.isLt; omega⟩

/-- Device `c` holds its blocks of the argument arrays. -/
structure Holds (c : Dev nD) : Prop where
  x : ∀ i a, inX m c (ix2 i a) = X (ix2 i a)
  wq : ∀ a e, inWq m c (ix2 a e) = WQ (ix2 a (gcol c e))
  k : ∀ j e, inK m c (ix2 j e) = KK (ix2 j (gcol c e))
  v : ∀ j e, inV m c (ix2 j e) = VV (ix2 j (gcol c e))
  wo : ∀ e n, inWo m c (ix2 e n) = WO (ix2 (gcol c e) n)

/-- The inputs to the scores are finite on device `c`. -/
structure Finite (c : Dev nD) : Prop where
  x : ∀ i a, IsFin (inX m c (ix2 i a))
  wq : ∀ a e, IsFin (inWq m c (ix2 a e))
  k : ∀ j e, IsFin (inK m c (ix2 j e))

/-- The global number of a device's head. -/
abbrev ghead (c : Dev nD) (h : Fin 8) : Fin 64 := ⟨8 * c.val + h.val, by have : c.val < 8 := c.isLt; omega⟩

theorem gcol_lcol (c : Dev nD) (h : Fin 8) (d : Fin 128) : gcol c (lcol h d) = hcol (ghead c h) d :=
  Fin.ext (by show 1024 * c.val + (128 * h.val + d.val) = (8 * c.val + h.val) * 128 + d.val; omega)

variable {m X WQ KK VV WO}

/-- A device's context is its columns of the reference's. -/
theorem ctx_eq {c : Dev nD} (H : Holds m X WQ KK VV WO c) (N : Finite m c) (t : Fin k0_t1_loop.trips) (r : Fin 256) (e : Fin 1024) :
    ctxOf m c t (ix2 r e) = ctxR (F := Ideal) X WQ KK VV (ix2 (grow (chunk c t) r) (gcol c e)) := by
  obtain ⟨h, d, rfl⟩ : ∃ (h : Fin 8) (d : Fin 128), e = lcol h d :=
    ⟨⟨e.val / 128, by omega⟩, ⟨e.val % 128, by omega⟩, Fin.ext (by show e.val = 128 * (e.val / 128) + e.val % 128; omega)⟩
  obtain ⟨κ, hκ⟩ := scale_word
  have hs := fun j : Fin 2048 => score (fun a : Fin 1024 => inX m c (ix2 (grow (chunk c t) r) a)) (fun a (e : Fin 128) => inWq m c (ix2 a (lcol h e)))
    (fun e : Fin 128 => inK m c (ix2 j (lcol h e))) κ (fun a => N.x _ a) (fun a e => N.wq a _) (fun e => N.k j _)
  choose s hs hs' using hs
  rw [ctx_at, head_at m c t h r d s (fun j => by rw [hκ]; exact hs j), gcol_lcol,
    ctxR_real X WQ KK VV (grow (chunk c t) r) (ghead c h) d s (fun j => by
      rw [hκ, ← hs' j]
      refine congrArg (· * (κ : EReal)) (Finset.sum_congr rfl fun e _ => ?_)
      rw [H.k, gcol_lcol]
      refine congrArg (· * _) (Finset.sum_congr rfl fun a _ => ?_)
      rw [H.x, H.wq, gcol_lcol]),
    ← context s (fun j => keep (grow (chunk c t) r).val j.val) (fun j => VV (ix2 j (hcol (ghead c h) d))) (j₀ := 0) (keep_zero _)]
  simp only [H.v, gcol_lcol]

/-- Device `c`'s share of the output projection. -/
def share (X : FVec Ideal ⟨2, ![2048, 1024]⟩ .bf16) (WQ : FVec Ideal ⟨2, ![1024, 8192]⟩ .bf16) (KK VV : FVec Ideal ⟨2, ![2048, 8192]⟩ .bf16)
    (WO : FVec Ideal ⟨2, ![8192, 1024]⟩ .bf16) (i : Fin 2048) (n : Fin 1024) (c : Fin 8) : EReal :=
  ∑ e : Fin 1024, ctxR (F := Ideal) X WQ KK VV (ix2 i (gcol c e)) * WO (ix2 (gcol c e) n)

theorem part_eq {c : Dev nD} (H : Holds m X WQ KK VV WO c) (N : Finite m c) (t : Fin k0_t1_loop.trips) (r : Fin 256) (n : Fin 1024) :
    part m c t (ix2 r n) = share X WQ KK VV WO (grow (chunk c t) r) n c := by
  rw [part_at]
  exact Finset.sum_congr rfl fun e _ => by rw [ctx_eq H N, H.wo]

/-- The reference's result is the sum of the devices' shares. -/
theorem out_shares (i : Fin 2048) (n : Fin 1024) : outR (F := Ideal) X WQ KK VV WO (ix2 i n) = ∑ c : Fin 8, share X WQ KK VV WO i n c := by
  rw [outR_at]
  unfold share
  rw [← Fintype.sum_prod_type' (f := fun (c : Fin 8) (e : Fin 1024) => ctxR (F := Ideal) X WQ KK VV (ix2 i (gcol c e)) * WO (ix2 (gcol c e) n))]
  refine (Fintype.sum_equiv (finProdFinEquiv (m := 8) (n := 1024)) _ _ fun p => ?_).symm
  have e : finProdFinEquiv p = gcol p.1 p.2 := Fin.ext (by
    show p.2.val + 1024 * p.1.val = 1024 * p.1.val + p.2.val; omega)
  rw [e]

/-- The ring adds every device's share once, whatever device the chunk ends on. -/
theorem ring_sum (f : Fin 8 → EReal) (k : Dev nD) :
    f (up 7 k) + (f (up 6 k) + (f (up 5 k) + (f (up 4 k) + (f (up 3 k) + (f (up 2 k) + (f (up 1 k) + f k)))))) = ∑ c : Fin 8, f c := by
  have h : ∀ k : Fin 8, ∑ c : Fin 8, f c = ∑ c : Fin 8, f (k + c) := fun k => (Equiv.sum_comp (Equiv.addLeft k) f).symm
  have e : ∀ (k : Fin 8) (a : Fin 8), k + a = up a.val k := fun k a => Fin.ext (Fin.val_add k a)
  rw [h k, Fin.sum_univ_eight]
  simp only [e]
  rw [show up (0 : Fin 8).val k = k from up_zero k]
  simp only [show ((1 : Fin 8).val) = 1 from rfl, show ((2 : Fin 8).val) = 2 from rfl, show ((3 : Fin 8).val) = 3 from rfl, show ((4 : Fin 8).val) = 4 from rfl,
    show ((5 : Fin 8).val) = 5 from rfl, show ((6 : Fin 8).val) = 6 from rfl, show ((7 : Fin 8).val) = 7 from rfl]
  ac_rfl

/-- A finished chunk is the reference's rows. -/
theorem fin_eq (H : ∀ c, Holds m X WQ KK VV WO c) (N : ∀ c, Finite m c) (k : Dev nD) (r : Fin 256) (n : Fin 1024) :
    fin m k (ix2 r n) = outR (F := Ideal) X WQ KK VV WO (ix2 (grow k r) n) := by
  have p : ∀ (c : Dev nD) (s : ℕ), chunk c (tr s) = k → part m c (tr s) (ix2 r n) = share X WQ KK VV WO (grow k r) n c := fun c s e => by
    rw [part_eq (H c) (N c), e]
  have w : ∀ (s : ℕ), s < 8 → chunk (up s k) (tr s) = k := fun s hs => by
    refine Fin.ext ?_
    show ((k.val + s) % 8 + (8 - s % 8)) % 8 = k.val
    have : k.val < 8 := k.isLt
    omega
  have q : ∀ s : ℕ, prv (up (s + 1) k) = up s k := fun s => by
    refine Fin.ext ?_
    show ((k.val + (s + 1)) % 8 + 7) % 8 = (k.val + s) % 8
    omega
  unfold fin
  rw [show prv k = up 7 k from rfl]
  simp only [acc_succ_at, q, acc_zero_at]
  rw [p _ _ (w 7 (by decide)), p _ _ (w 6 (by decide)), p _ _ (w 5 (by decide)), p _ _ (w 4 (by decide)), p _ _ (w 3 (by decide)), p _ _ (w 2 (by decide)),
    p _ _ (w 1 (by decide)), p _ _ (w 0 (by decide)), up_zero, ring_sum, out_shares]

/-- The kernel's result is the reference's. -/
theorem out_eq (H : ∀ c, Holds m X WQ KK VV WO c) (N : ∀ c, Finite m c) : outF m = outR (F := Ideal) X WQ KK VV WO := by
  funext i
  have hi : (i 0).val < 2048 := (i 0).isLt
  have e : rowIx i = ix2 ⟨(i 0).val % 256, Nat.mod_lt _ (by decide)⟩ (i 1) := by
    funext b
    match b with
    | ⟨0, _⟩ => rfl
    | ⟨1, _⟩ => rfl
  have e' : ix2 (grow (rowOf i) ⟨(i 0).val % 256, Nat.mod_lt _ (by decide)⟩) (i 1) = i := by
    funext b
    match b with
    | ⟨0, _⟩ => exact Fin.ext (by show 256 * ((i 0).val / 256) + (i 0).val % 256 = (i 0).val; omega)
    | ⟨1, _⟩ => rfl
  unfold outF
  rw [e]
  exact (fin_eq H N (rowOf i) _ (i 1)).trans (congrArg _ e')

end Cert.RingProof

end
-- ==== Proof.Algebraic.lean ====
/- The value claim: the precondition read element by element, the blocks read as the arrays' columns and rows, the two runs. -/
module

public import proofs.«01_k».proof.Proof.Value
public import proofs.«01_k».proof.Proof.Frames
public import proofs.«01_k».proof.Proof.RefFrame

@[expose] public section

noncomputable section

namespace Cert.RingProof

open Cert.KernelIdeal Cert.KernelIdeal.Gen Idealize.ShloMosaic Idealize.ShloMosaic.TcCoe Idealize.SL.Sem Cert.Words Cert.Softmax

set_option maxRecDepth 16384

theorem pre_facts : Cert.Pre_finite_KernelIdeal.Facts where
  bcast_S_S2048x1024 := by decide
  reducesTo_S2048x1024_S_d0_1 := by decide
  h_S_ := by decide
  bcast_S_S1024x1024 := by decide
  reducesTo_S1024x1024_S_d0_1 := by decide

theorem pre_facts_reference : Cert.Pre_finite_ReferenceIdeal.Facts where
  bcast_S_S2048x1024 := by decide
  reducesTo_S2048x1024_S_d0_1 := by decide
  h_S_ := by decide
  bcast_S_S1024x8192 := by decide
  reducesTo_S1024x8192_S_d0_1 := by decide
  bcast_S_S2048x8192 := by decide
  reducesTo_S2048x8192_S_d0_1 := by decide

/-- An element whose absolute value is below infinity is finite. -/
theorem fin_of_lt {a : EReal} (h : Ideal.cmp .olt (max a (-a)) (Ideal.ofBits .bf16 0x7F80#16) = 1#1) : IsFin a := by
  rw [top_word] at h
  have h' : max a (-a) < ⊤ := by
    by_contra hn
    have : Ideal.cmp .olt (max a (-a)) ⊤ = 0#1 := by
      show BitVec.ofBool (decide (max a (-a) < ⊤)) = 0#1
      rw [decide_eq_false hn]; rfl
    rw [this] at h; exact absurd h (by decide)
  refine ⟨fun e => ?_, fun e => ?_⟩
  · subst e; simp at h'
  · subst e; simp at h'

instance : Subsingleton (Cert.Pre_finite_KernelIdeal.S_).Idx := ⟨fun a b => funext fun i => i.elim0⟩

/-- The precondition, element by element. -/
theorem finite_of_pre [hp : Cert.Pre_finite_KernelIdeal.Facts] (m : (ℓ : Loc nD τ sig) → Buf (Elt Ideal) ℓ)
    (h : Cert.Pre_KernelIdeal_finite_KernelIdeal m) (c : Dev nD) : Finite m c := by
  have e := congrFun (h c) ix0
  dsimp only [Cert.Pre_finite_KernelIdeal.fn] at e
  obtain ⟨e12, e3⟩ := IntOp.andi_eq_one.1 e
  obtain ⟨e1, e2⟩ := IntOp.andi_eq_one.1 e12
  exact ⟨fun i a => fin_of_lt (Host.reduce_andi_all _ _ _ _ _ e1 (ix2 i a)), fun a b => fin_of_lt (Host.reduce_andi_all _ _ _ _ _ e2 (ix2 a b)),
    fun j b => fin_of_lt (Host.reduce_andi_all _ _ _ _ _ e3 (ix2 j b))⟩

theorem algebraic [hp : Cert.Pre_finite_KernelIdeal.Facts] : Cert.algebraic_KernelIdeal_ReferenceIdeal_pre_finite_KernelIdeal := by
  intro m g m' g' hpre hin
  have H : ∀ c, Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) c := fun c => by
    obtain ⟨h0, h1, h2, h3, h4⟩ := hin c
    have col : ∀ (s : ℕ) (hT : Layout.Tiles ⟨2, ![s, 1024]⟩ ⟨2, ![s, 8192]⟩ 1 8) (a : Fin s) (e : Fin 1024), hT.idx c (ix2 a e) = ix2 a (gcol c e) := fun s hT a e => by
      funext b
      refine Fin.ext ?_
      rw [Layout.Tiles.idx_val]
      match b with
      | ⟨0, _⟩ => rfl
      | ⟨1, _⟩ => show c.val * 1024 + e.val = 1024 * c.val + e.val; omega
    have row : ∀ (hT : Layout.Tiles ⟨2, ![1024, 1024]⟩ ⟨2, ![8192, 1024]⟩ 0 8) (e n : Fin 1024), hT.idx c (ix2 e n) = ix2 (gcol c e) n := fun hT e n => by
      funext b
      refine Fin.ext ?_
      rw [Layout.Tiles.idx_val]
      match b with
      | ⟨0, _⟩ => show c.val * 1024 + e.val = 1024 * c.val + e.val; omega
      | ⟨1, _⟩ => rfl
    exact {
      x := fun i a => congrFun h0 (ix2 i a)
      wq := fun a e => (congrFun h1 (ix2 a e)).trans (congrArg _ (col 1024 _ a e))
      k := fun j e => (congrFun h2 (ix2 j e)).trans (congrArg _ (col 2048 _ j e))
      v := fun j e => (congrFun h3 (ix2 j e)).trans (congrArg _ (col 2048 _ j e))
      wo := fun e n => (congrFun h4 (ix2 e n)).trans (congrArg _ (row _ e n)) }
  have E := (out_eq H (finite_of_pre m hpre)).trans (Cert.ReferenceIdeal.Value.res_eq (F := Ideal) m' 0).symm
  refine ⟨Cert.ReferenceIdeal.Value.res_main_v52 (F := Ideal) m' 0, ?_, ?_⟩
  · refine (θ_run _ _ _).mono (fun r h c => ?_) (run_arrays (F := Ideal) m g)
    exact ⟨(h.1 c).1.trans E, (h.1 c).2⟩
  · exact (θ_run _ _ _).mono (fun r h => h 0) (Cert.ReferenceIdeal.Value.run (F := Ideal) m' g')

end Cert.RingProof

end
-- ==== Proof.lean ====
/- The claims: the frames of the three programs, that the idealised kernel's one rewrite is sanctioned, and that over the
   extended reals the kernel computes the reference. -/
module

public import proofs.«01_k».proof.Defs
public import proofs.«01_k».proof.Proof.Frames
public import proofs.«01_k».proof.Proof.RefFrame
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.RingProof.pre_facts, Cert.RingProof.pre_facts_reference,
  Cert.RingProof.frame_kernel, Cert.RingProof.frame_ideal, fun m g _ => Cert.RingProof.frame_ideal m g trivial,
  Cert.RingProof.frame_reference, fun m g _ => Cert.RingProof.frame_reference m g trivial,
  Cert.RingProof.preserves, @Cert.RingProof.algebraic Cert.RingProof.pre_facts⟩

end Cert.Proof

end
